-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_where_untied [hKernelIdeal : Cert.KernelIdeal.Facts] [hReferenceIdeal : Cert.ReferenceIdeal.Facts] [hOn_where_untied : Cert.On_where_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 4, 2048, 16]⟩ : Shape).Idx, (Cert.On_where_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 4, 2048, 16]⟩ : Shape).Idx, (Cert.On_where_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v59) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_ties : Cert.Pre_no_ties.Facts) (hOn_where_untied : Cert.On_where_untied.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_on_where_untied (hKernelIdeal := hKernelIdeal) (hReferenceIdeal := hReferenceIdeal) (hOn_where_untied := hOn_where_untied)
    ∧ algebraic_KernelIdeal_ReferenceIdeal_pre_no_ties (hKernelIdeal := hKernelIdeal) (hReferenceIdeal := hReferenceIdeal) (hPre_no_ties := hPre_no_ties)
-- ==== On_where_untied.lean ====
abbrev S4x256x2048x1 : Shape := ⟨4, ![4, 256, 2048, 1]⟩
abbrev S4x1x2048x1 : Shape := ⟨4, ![4, 1, 2048, 1]⟩
abbrev S_ : Shape := ⟨0, ![]⟩
abbrev S4x2048x1 : Shape := ⟨3, ![4, 2048, 1]⟩
abbrev S4x2048x256x1 : Shape := ⟨4, ![4, 2048, 256, 1]⟩
abbrev S4x2048x256 : Shape := ⟨3, ![4, 2048, 256]⟩
abbrev S4x2048x1x1 : Shape := ⟨4, ![4, 2048, 1, 1]⟩
abbrev S4x256x2048 : Shape := ⟨3, ![4, 256, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4 : Shape := ⟨1, ![4]⟩
abbrev S4x1 : Shape := ⟨2, ![4, 1]⟩
abbrev S4x1x1 : Shape := ⟨3, ![4, 1, 1]⟩
abbrev S4x2048x31 : Shape := ⟨3, ![4, 2048, 31]⟩
abbrev S4x2048x30 : Shape := ⟨3, ![4, 2048, 30]⟩
abbrev S4x2048x16 : Shape := ⟨3, ![4, 2048, 16]⟩
abbrev S1x4x2048x16 : Shape := ⟨4, ![1, 4, 2048, 16]⟩
abbrev S2x4x2048x16 : Shape := ⟨4, ![2, 4, 2048, 16]⟩

class Facts : Prop where
  reducesTo_S4x256x2048x1_S4x2048x1_d1 : S4x256x2048x1.ReducesTo [1] S4x2048x1
  h_S_ : 0 < S_.numel
  bcast_S4x2048x1_S4x1x2048x1_0_2_3 : S4x2048x1.BroadcastsInDim S4x1x2048x1 (![0, 2, 3] : Fin 3 → Fin S4x1x2048x1.rank)
  bcast_S_S4x1x2048x1 : S_.BroadcastsInDim S4x1x2048x1 (![] : Fin 0 → Fin S4x1x2048x1.rank)
  bcast_S4x1x2048x1_S4x256x2048x1_0_1_2_3 : S4x1x2048x1.BroadcastsInDim S4x256x2048x1 (![0, 1, 2, 3] : Fin 4 → Fin S4x256x2048x1.rank)
  transposes_S4x256x2048x1_S4x2048x256x1_0_2_1_3 : S4x256x2048x1.Transposes [0, 2, 1, 3] S4x2048x256x1
  shapeCasts_S4x2048x256x1_S4x2048x256 : S4x2048x256x1.ShapeCasts S4x2048x256
  transposes_S4x1x2048x1_S4x2048x1x1_0_2_1_3 : S4x1x2048x1.Transposes [0, 2, 1, 3] S4x2048x1x1
  shapeCasts_S4x2048x1x1_S4x2048x1 : S4x2048x1x1.ShapeCasts S4x2048x1
  transposes_S4x2048x256_S4x256x2048_0_2_1 : S4x2048x256.Transposes [0, 2, 1] S4x256x2048
  bcast_S_S4x2048x2048 : S_.BroadcastsInDim S4x2048x2048 (![] : Fin 0 → Fin S4x2048x2048.rank)
  reducesTo_S4x2048x256_S4x2048_d2 : S4x2048x256.ReducesTo [2] S4x2048
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1_S4x1x2048_0_2_1 : S4x2048x1.Transposes [0, 2, 1] S4x1x2048
  bcast_S4x1x2048_S4x2048x2048_0_1_2 : S4x1x2048.BroadcastsInDim S4x2048x2048 (![0, 1, 2] : Fin 3 → Fin S4x2048x2048.rank)
  reducesTo_S4x2048x1_S4x2048_d2 : S4x2048x1.ReducesTo [2] S4x2048
  shapeCasts_S4x2048x1_S4x2048 : S4x2048x1.ShapeCasts S4x2048
  reducesTo_S4x2048_S4_d1 : S4x2048.ReducesTo [1] S4
  bcast_S4_S4x1_0 : S4.BroadcastsInDim S4x1 (![0] : Fin 1 → Fin S4x1.rank)
  bcast_S4x1_S4x1x1_0_1 : S4x1.BroadcastsInDim S4x1x1 (![0, 1] : Fin 2 → Fin S4x1x1.rank)
  bcast_S4x1x1_S4x2048x1_0_1_2 : S4x1x1.BroadcastsInDim S4x2048x1 (![0, 1, 2] : Fin 3 → Fin S4x2048x1.rank)
  sliceFits_S4x2048x2048_S4x2048x31 : S4x2048x2048.Slices (fun _ => 0) S4x2048x31
  slices_S4x2048x31_S4x2048x30_0_0_0 : S4x2048x31.Slices ![0, 0, 0] S4x2048x30
  slices_S4x2048x31_S4x2048x30_0_0_1 : S4x2048x31.Slices ![0, 0, 1] S4x2048x30
  natLt_1_32 : 1 < 32
  reducesTo_S4x2048x30_S4x2048_d2 : S4x2048x30.ReducesTo [2] S4x2048
  slices_S4x2048x31_S4x2048x1_0_0_30 : S4x2048x31.Slices ![0, 0, 30] S4x2048x1
  bcast_S_S4x2048x1 : S_.BroadcastsInDim S4x2048x1 (![] : Fin 0 → Fin S4x2048x1.rank)
  bcast_S4x2048x1_S4x2048x16_0_1_2 : S4x2048x1.BroadcastsInDim S4x2048x16 (![0, 1, 2] : Fin 3 → Fin S4x2048x16.rank)
  bcast_S_S4x2048x16 : S_.BroadcastsInDim S4x2048x16 (![] : Fin 0 → Fin S4x2048x16.rank)
  bcast_S4x2048x16_S1x4x2048x16_1_2_3 : S4x2048x16.BroadcastsInDim S1x4x2048x16 (![1, 2, 3] : Fin 3 → Fin S1x4x2048x16.rank)
  concatenates_S1x4x2048x16_S1x4x2048x16_S2x4x2048x16_d0 : Shape.Concatenates [S1x4x2048x16, S1x4x2048x16] S2x4x2048x16 0
  dot_S4x2048x256_S4x256x2048_S4x2048x2048_2_1_1_2_0_0_wf : DotDims.WF S4x2048x256 S4x256x2048 S4x2048x2048 [2] [1] [1] [2] [0] [0]
  dot_S4x2048x1_S4x1x2048_S4x2048x2048_2_1_1_2_0_0_wf : DotDims.WF S4x2048x1 S4x1x2048 S4x2048x2048 [2] [1] [1] [2] [0] [0]

variable [Facts]

def dot_S4x2048x256_S4x256x2048_S4x2048x2048_2_1_1_2_0_0 : DotDims S4x2048x256 S4x256x2048 S4x2048x2048 where
  lhsContracting := [2]
  rhsContracting := [1]
  lhsNonContracting := [1]
  rhsNonContracting := [2]
  lhsBatch := [0]
  rhsBatch := [0]
  wf := dot_S4x2048x256_S4x256x2048_S4x2048x2048_2_1_1_2_0_0_wf
def dot_S4x2048x1_S4x1x2048_S4x2048x2048_2_1_1_2_0_0 : DotDims S4x2048x1 S4x1x2048 S4x2048x2048 where
  lhsContracting := [2]
  rhsContracting := [1]
  lhsNonContracting := [1]
  rhsNonContracting := [2]
  lhsBatch := [0]
  rhsBatch := [0]
  wf := dot_S4x2048x1_S4x1x2048_S4x2048x2048_2_1_1_2_0_0_wf
def fn_clip {F : FTy → Type} [FloatOps F] (arg0 : FVec F S4x1x2048x1 .f32) (arg1 : FVec F S_ .f32) : FVec F S4x1x2048x1 .f32 :=
  let v0 : FVec F S_ .f32 := id arg1
  let v1 : FVec F S4x1x2048x1 .f32 := broadcastInDim S4x1x2048x1 ![] bcast_S_S4x1x2048x1 v0
  let v2 : FVec F S4x1x2048x1 .f32 := maximumf v1 arg0
  v2

def fn_part3 {F : FTy → Type} [FloatOps F] (main_v58 : IVec S4x2048x1 32) (main_v59 : FVec F S4x2048x1 .f32) : IVec S2x4x2048x16 1 :=
  let main_c_8 : IVec S_ 32 := constantI S_ 32 0#32
  let main_v60 : IVec S4x2048x1 32 := broadcastInDim S4x2048x1 ![] bcast_S_S4x2048x1 main_c_8
  let main_v61 : IVec S4x2048x1 1 := cmpi .eq main_v58 main_v60
  let main_cst_9 : FVec F S_ .f32 := constant S_ .f32 0xFF800000#32
  let main_v62 : FVec F S4x2048x1 .f32 := broadcastInDim S4x2048x1 ![] bcast_S_S4x2048x1 main_cst_9
  let main_v63 : IVec S4x2048x1 1 := cmpf .ogt main_v59 main_v62
  let main_v64 : IVec S4x2048x1 1 := andi main_v61 main_v63
  let main_v65 : IVec S4x2048x16 1 := broadcastInDim S4x2048x16 ![0, 1, 2] bcast_S4x2048x1_S4x2048x16_0_1_2 main_v64
  let main_c_10 : IVec S_ 1 := constantI S_ 1 1#1
  let main_v66 : IVec S4x2048x16 1 := broadcastInDim S4x2048x16 ![] bcast_S_S4x2048x16 main_c_10
  let main_v67 : IVec S1x4x2048x16 1 := broadcastInDim S1x4x2048x16 ![1, 2, 3] bcast_S4x2048x16_S1x4x2048x16_1_2_3 main_v65
  let main_v68 : IVec S1x4x2048x16 1 := broadcastInDim S1x4x2048x16 ![1, 2, 3] bcast_S4x2048x16_S1x4x2048x16_1_2_3 main_v66
  let main_v69 : IVec S2x4x2048x16 1 := (fun a b => concatenate S2x4x2048x16 0 [⟨S1x4x2048x16, a⟩, ⟨S1x4x2048x16, b⟩] concatenates_S1x4x2048x16_S1x4x2048x16_S2x4x2048x16_d0) main_v67 main_v68
  main_v69

def fn_part2 {F : FTy → Type} [FloatOps F] (main_v10 : FVec F S4x2048x1 .f32) (main_v22 : FVec F S4x2048x2048 .f32) (main_v36 : FVec F S4x2048x2048 .f32) (main_v37 : FVec F S4x2048 .f32) (main_v39 : FVec F S4x1 .f32) : IVec S2x4x2048x16 1 :=
  let main_v40 : FVec F S4x1x1 .f32 := broadcastInDim S4x1x1 ![0, 1] bcast_S4x1_S4x1x1_0_1 main_v39
  let main_cst_7 : FVec F S_ .f32 := constant S_ .f32 0x7F800000#32
  let main_v41 : FVec F S4 .f32 := (fun x v => Host.reduce FloatOps.minimumf x v reducesTo_S4x2048_S4_d1 h_S_) main_v37 main_cst_7
  let main_v42 : FVec F S4x1 .f32 := broadcastInDim S4x1 ![0] bcast_S4_S4x1_0 main_v41
  let main_v43 : FVec F S4x1x1 .f32 := broadcastInDim S4x1x1 ![0, 1] bcast_S4x1_S4x1x1_0_1 main_v42
  let main_v44 : FVec F S4x2048x1 .f32 := broadcastInDim S4x2048x1 ![0, 1, 2] bcast_S4x1x1_S4x2048x1_0_1_2 main_v43
  let main_v45 : FVec F S4x2048x1 .f32 := subf main_v10 main_v44
  let main_v46 : FVec F S4x1x1 .f32 := subf main_v40 main_v43
  let main_v47 : FVec F S4x2048x1 .f32 := broadcastInDim S4x2048x1 ![0, 1, 2] bcast_S4x1x1_S4x2048x1_0_1_2 main_v46
  let main_v48 : FVec F S4x2048x1 .f32 := Host.divf main_v45 main_v47
  let main_v49 : FVec F S4x2048x2048 .f32 := broadcastInDim S4x2048x2048 ![0, 1, 2] bcast_S4x2048x1_S4x2048x2048_0_1_2 main_v48
  let main_v50 : FVec F S4x2048x2048 .f32 := mulf main_v36 main_v49
  let main_v51 : FVec F S4x2048x2048 .f32 := addf main_v22 main_v50
  let main_v52 : FVec F S4x2048x2048 .f32 := Host.negf main_v51
  let main_values : FVec F S4x2048x31 .f32 := (fun x => (Host.topK S4x2048x31 2 (FloatOps.cmpfTotal .gt) x sliceFits_S4x2048x2048_S4x2048x31).1) main_v52
  let main_indices : IVec S4x2048x31 32 := (fun x => (Host.topK S4x2048x31 2 (FloatOps.cmpfTotal .gt) x sliceFits_S4x2048x2048_S4x2048x31).2) main_v52
  let main_v53 : FVec F S4x2048x30 .f32 := (extractStridedSlice S4x2048x30 ![0, 0, 0] · slices_S4x2048x31_S4x2048x30_0_0_0) main_values
  let main_v54 : FVec F S4x2048x30 .f32 := (extractStridedSlice S4x2048x30 ![0, 0, 1] · slices_S4x2048x31_S4x2048x30_0_0_1) main_values
  let main_v55 : IVec S4x2048x30 1 := cmpf .ole main_v53 main_v54
  let main_v56 : IVec S4x2048x30 32 := (extui 32 · natLt_1_32) main_v55
  let main_c : IVec S_ 32 := constantI S_ 32 0#32
  let main_v57 : IVec S4x2048 32 := (fun x v => Host.reduce IntOp.addi x v reducesTo_S4x2048x30_S4x2048_d2 h_S_) main_v56 main_c
  let main_v58 : IVec S4x2048x1 32 := broadcastInDim S4x2048x1 ![0, 1] bcast_S4x2048_S4x2048x1_0_1 main_v57
  let main_v59 : FVec F S4x2048x1 .f32 := (extractStridedSlice S4x2048x1 ![0, 0, 30] · slices_S4x2048x31_S4x2048x1_0_0_30) main_values
  fn_part3 (F := F) main_v58 main_v59

def fn_part1 {F : FTy → Type} [FloatOps F] (main_v10 : FVec F S4x2048x1 .f32) (main_v17 : FVec F S4x2048x1 .f32) (main_v19 : FVec F S4x2048x2048 .f32) : IVec S2x4x2048x16 1 :=
  let main_v20 : FVec F S4x1x2048 .f32 := (transpose S4x1x2048 [0, 2, 1] · transposes_S4x2048x1_S4x1x2048_0_2_1) main_v17
  let main_v21 : FVec F S4x2048x2048 .f32 := broadcastInDim S4x2048x2048 ![0, 1, 2] bcast_S4x1x2048_S4x2048x2048_0_1_2 main_v20
  let main_v22 : FVec F S4x2048x2048 .f32 := addf main_v19 main_v21
  let main_v23 : FVec F S4x1x2048 .f32 := (transpose S4x1x2048 [0, 2, 1] · transposes_S4x2048x1_S4x1x2048_0_2_1) main_v10
  let main_v24 : FVec F S4x2048x2048 .f32 := (fun l r => Host.dotGeneral dot_S4x2048x1_S4x1x2048_S4x2048x2048_2_1_1_2_0_0 none l r) main_v10 main_v23
  let main_cst_3 : FVec F S_ .f32 := constant S_ .f32 0xC0000000#32
  let main_v25 : FVec F S4x2048x2048 .f32 := broadcastInDim S4x2048x2048 ![] bcast_S_S4x2048x2048 main_cst_3
  let main_v26 : FVec F S4x2048x2048 .f32 := mulf main_v25 main_v24
  let main_v27 : FVec F S4x2048x1 .f32 := mulf main_v10 main_v10
  let main_cst_4 : FVec F S_ .f32 := constant S_ .f32 0x00000000#32
  let main_v28 : FVec F S4x2048 .f32 := (fun x v => Host.reduceAdd x v reducesTo_S4x2048x1_S4x2048_d2 h_S_) main_v27 main_cst_4
  let main_v29 : FVec F S4x2048x1 .f32 := broadcastInDim S4x2048x1 ![0, 1] bcast_S4x2048_S4x2048x1_0_1 main_v28
  let main_v30 : FVec F S4x2048x2048 .f32 := broadcastInDim S4x2048x2048 ![0, 1, 2] bcast_S4x2048x1_S4x2048x2048_0_1_2 main_v29
  let main_v31 : FVec F S4x2048x2048 .f32 := addf main_v30 main_v26
  let main_v32 : FVec F S4x1x2048 .f32 := (transpose S4x1x2048 [0, 2, 1] · transposes_S4x2048x1_S4x1x2048_0_2_1) main_v29
  let main_v33 : FVec F S4x2048x2048 .f32 := broadcastInDim S4x2048x2048 ![0, 1, 2] bcast_S4x1x2048_S4x2048x2048_0_1_2 main_v32
  let main_v34 : FVec F S4x2048x2048 .f32 := addf main_v31 main_v33
  let main_cst_5 : FVec F S_ .f32 := constant S_ .f32 0x3F800000#32
  let main_v35 : FVec F S4x2048x2048 .f32 := broadcastInDim S4x2048x2048 ![] bcast_S_S4x2048x2048 main_cst_5
  let main_v36 : FVec F S4x2048x2048 .f32 := mulf main_v34 main_v35
  let main_v37 : FVec F S4x2048 .f32 := shapeCast S4x2048 main_v10 shapeCasts_S4x2048x1_S4x2048
  let main_cst_6 : FVec F S_ .f32 := constant S_ .f32 0xFF800000#32
  let main_v38 : FVec F S4 .f32 := (fun x v => Host.reduce FloatOps.maximumf x v reducesTo_S4x2048_S4_d1 h_S_) main_v37 main_cst_6
  let main_v39 : FVec F S4x1 .f32 := broadcastInDim S4x1 ![0] bcast_S4_S4x1_0 main_v38
  fn_part2 (F := F) main_v10 main_v22 main_v36 main_v37 main_v39

def fn {F : FTy → Type} [FloatOps F] (main_arg0 : FVec F S4x256x2048x1 .f32) (main_arg1 : FVec F S4x1x2048x1 .f32) : IVec S2x4x2048x16 1 :=
  let main_v0 : FVec F S4x256x2048x1 .f32 := mulf main_arg0 main_arg0
  let main_cst : FVec F S_ .f32 := constant S_ .f32 0x00000000#32
  let main_v1 : FVec F S4x2048x1 .f32 := (fun x v => Host.reduceAdd x v reducesTo_S4x256x2048x1_S4x2048x1_d1 h_S_) main_v0 main_cst
  let main_v2 : FVec F S4x1x2048x1 .f32 := broadcastInDim S4x1x2048x1 ![0, 2, 3] bcast_S4x2048x1_S4x1x2048x1_0_2_3 main_v1
  let main_v3 : FVec F S4x1x2048x1 .f32 := Host.sqrt main_v2
  let main_cst_0 : FVec F S_ .f32 := constant S_ .f32 0x2B8CBCCC#32
  let main_v4 : FVec F S4x1x2048x1 .f32 := fn_clip (F := F) main_v3 main_cst_0
  let main_v5 : FVec F S4x256x2048x1 .f32 := broadcastInDim S4x256x2048x1 ![0, 1, 2, 3] bcast_S4x1x2048x1_S4x256x2048x1_0_1_2_3 main_v4
  let main_v6 : FVec F S4x256x2048x1 .f32 := Host.divf main_arg0 main_v5
  let main_v7 : FVec F S4x2048x256x1 .f32 := (transpose S4x2048x256x1 [0, 2, 1, 3] · transposes_S4x256x2048x1_S4x2048x256x1_0_2_1_3) main_v6
  let main_v8 : FVec F S4x2048x256 .f32 := shapeCast S4x2048x256 main_v7 shapeCasts_S4x2048x256x1_S4x2048x256
  let main_v9 : FVec F S4x2048x1x1 .f32 := (transpose S4x2048x1x1 [0, 2, 1, 3] · transposes_S4x1x2048x1_S4x2048x1x1_0_2_1_3) main_arg1
  let main_v10 : FVec F S4x2048x1 .f32 := shapeCast S4x2048x1 main_v9 shapeCasts_S4x2048x1x1_S4x2048x1
  let main_v11 : FVec F S4x256x2048 .f32 := (transpose S4x256x2048 [0, 2, 1] · transposes_S4x2048x256_S4x256x2048_0_2_1) main_v8
  let main_v12 : FVec F S4x2048x2048 .f32 := (fun l r => Host.dotGeneral dot_S4x2048x256_S4x256x2048_S4x2048x2048_2_1_1_2_0_0 none l r) main_v8 main_v11
  let main_cst_1 : FVec F S_ .f32 := constant S_ .f32 0xC0000000#32
  let main_v13 : FVec F S4x2048x2048 .f32 := broadcastInDim S4x2048x2048 ![] bcast_S_S4x2048x2048 main_cst_1
  let main_v14 : FVec F S4x2048x2048 .f32 := mulf main_v13 main_v12
  let main_v15 : FVec F S4x2048x256 .f32 := mulf main_v8 main_v8
  let main_cst_2 : FVec F S_ .f32 := constant S_ .f32 0x00000000#32
  let main_v16 : FVec F S4x2048 .f32 := (fun x v => Host.reduceAdd x v reducesTo_S4x2048x256_S4x2048_d2 h_S_) main_v15 main_cst_2
  let main_v17 : FVec F S4x2048x1 .f32 := broadcastInDim S4x2048x1 ![0, 1] bcast_S4x2048_S4x2048x1_0_1 main_v16
  let main_v18 : FVec F S4x2048x2048 .f32 := broadcastInDim S4x2048x2048 ![0, 1, 2] bcast_S4x2048x1_S4x2048x2048_0_1_2 main_v17
  let main_v19 : FVec F S4x2048x2048 .f32 := addf main_v18 main_v14
  fn_part1 (F := F) main_v10 main_v17 main_v19
-- ==== Pre_no_ties.lean ====
abbrev S4x256x2048x1 : Shape := ⟨4, ![4, 256, 2048, 1]⟩
abbrev S4x1x2048x1 : Shape := ⟨4, ![4, 1, 2048, 1]⟩
abbrev S_ : Shape := ⟨0, ![]⟩
abbrev S4x2048x1 : Shape := ⟨3, ![4, 2048, 1]⟩
abbrev S4x2048x256x1 : Shape := ⟨4, ![4, 2048, 256, 1]⟩
abbrev S4x2048x256 : Shape := ⟨3, ![4, 2048, 256]⟩
abbrev S4x2048x1x1 : Shape := ⟨4, ![4, 2048, 1, 1]⟩
abbrev S4x256x2048 : Shape := ⟨3, ![4, 256, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4 : Shape := ⟨1, ![4]⟩
abbrev S4x1 : Shape := ⟨2, ![4, 1]⟩
abbrev S4x1x1 : Shape := ⟨3, ![4, 1, 1]⟩
abbrev S4x2048x31 : Shape := ⟨3, ![4, 2048, 31]⟩
abbrev S4x2048x30 : Shape := ⟨3, ![4, 2048, 30]⟩

class Facts : Prop where
  reducesTo_S4x256x2048x1_S4x2048x1_d1 : S4x256x2048x1.ReducesTo [1] S4x2048x1
  h_S_ : 0 < S_.numel
  bcast_S4x2048x1_S4x1x2048x1_0_2_3 : S4x2048x1.BroadcastsInDim S4x1x2048x1 (![0, 2, 3] : Fin 3 → Fin S4x1x2048x1.rank)
  bcast_S_S4x1x2048x1 : S_.BroadcastsInDim S4x1x2048x1 (![] : Fin 0 → Fin S4x1x2048x1.rank)
  bcast_S4x1x2048x1_S4x256x2048x1_0_1_2_3 : S4x1x2048x1.BroadcastsInDim S4x256x2048x1 (![0, 1, 2, 3] : Fin 4 → Fin S4x256x2048x1.rank)
  transposes_S4x256x2048x1_S4x2048x256x1_0_2_1_3 : S4x256x2048x1.Transposes [0, 2, 1, 3] S4x2048x256x1
  shapeCasts_S4x2048x256x1_S4x2048x256 : S4x2048x256x1.ShapeCasts S4x2048x256
  transposes_S4x1x2048x1_S4x2048x1x1_0_2_1_3 : S4x1x2048x1.Transposes [0, 2, 1, 3] S4x2048x1x1
  shapeCasts_S4x2048x1x1_S4x2048x1 : S4x2048x1x1.ShapeCasts S4x2048x1
  transposes_S4x2048x256_S4x256x2048_0_2_1 : S4x2048x256.Transposes [0, 2, 1] S4x256x2048
  bcast_S_S4x2048x2048 : S_.BroadcastsInDim S4x2048x2048 (![] : Fin 0 → Fin S4x2048x2048.rank)
  reducesTo_S4x2048x256_S4x2048_d2 : S4x2048x256.ReducesTo [2] S4x2048
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  transposes_S4x2048x1_S4x1x2048_0_2_1 : S4x2048x1.Transposes [0, 2, 1] S4x1x2048
  bcast_S4x1x2048_S4x2048x2048_0_1_2 : S4x1x2048.BroadcastsInDim S4x2048x2048 (![0, 1, 2] : Fin 3 → Fin S4x2048x2048.rank)
  reducesTo_S4x2048x1_S4x2048_d2 : S4x2048x1.ReducesTo [2] S4x2048
  shapeCasts_S4x2048x1_S4x2048 : S4x2048x1.ShapeCasts S4x2048
  reducesTo_S4x2048_S4_d1 : S4x2048.ReducesTo [1] S4
  bcast_S4_S4x1_0 : S4.BroadcastsInDim S4x1 (![0] : Fin 1 → Fin S4x1.rank)
  bcast_S4x1_S4x1x1_0_1 : S4x1.BroadcastsInDim S4x1x1 (![0, 1] : Fin 2 → Fin S4x1x1.rank)
  bcast_S4x1x1_S4x2048x1_0_1_2 : S4x1x1.BroadcastsInDim S4x2048x1 (![0, 1, 2] : Fin 3 → Fin S4x2048x1.rank)
  sliceFits_S4x2048x2048_S4x2048x31 : S4x2048x2048.Slices (fun _ => 0) S4x2048x31
  slices_S4x2048x31_S4x2048x30_0_0_0 : S4x2048x31.Slices ![0, 0, 0] S4x2048x30
  slices_S4x2048x31_S4x2048x30_0_0_1 : S4x2048x31.Slices ![0, 0, 1] S4x2048x30
  natLt_1_32 : 1 < 32
  reducesTo_S4x2048x30_S4x2048_d2 : S4x2048x30.ReducesTo [2] S4x2048
  slices_S4x2048x31_S4x2048x1_0_0_30 : S4x2048x31.Slices ![0, 0, 30] S4x2048x1
  bcast_S_S4x2048x1 : S_.BroadcastsInDim S4x2048x1 (![] : Fin 0 → Fin S4x2048x1.rank)
  dot_S4x2048x256_S4x256x2048_S4x2048x2048_2_1_1_2_0_0_wf : DotDims.WF S4x2048x256 S4x256x2048 S4x2048x2048 [2] [1] [1] [2] [0] [0]
  dot_S4x2048x1_S4x1x2048_S4x2048x2048_2_1_1_2_0_0_wf : DotDims.WF S4x2048x1 S4x1x2048 S4x2048x2048 [2] [1] [1] [2] [0] [0]

variable [Facts]

def dot_S4x2048x256_S4x256x2048_S4x2048x2048_2_1_1_2_0_0 : DotDims S4x2048x256 S4x256x2048 S4x2048x2048 where
  lhsContracting := [2]
  rhsContracting := [1]
  lhsNonContracting := [1]
  rhsNonContracting := [2]
  lhsBatch := [0]
  rhsBatch := [0]
  wf := dot_S4x2048x256_S4x256x2048_S4x2048x2048_2_1_1_2_0_0_wf
def dot_S4x2048x1_S4x1x2048_S4x2048x2048_2_1_1_2_0_0 : DotDims S4x2048x1 S4x1x2048 S4x2048x2048 where
  lhsContracting := [2]
  rhsContracting := [1]
  lhsNonContracting := [1]
  rhsNonContracting := [2]
  lhsBatch := [0]
  rhsBatch := [0]
  wf := dot_S4x2048x1_S4x1x2048_S4x2048x2048_2_1_1_2_0_0_wf
def fn_clip {F : FTy → Type} [FloatOps F] (arg0 : FVec F S4x1x2048x1 .f32) (arg1 : FVec F S_ .f32) : FVec F S4x1x2048x1 .f32 :=
  let v0 : FVec F S_ .f32 := id arg1
  let v1 : FVec F S4x1x2048x1 .f32 := broadcastInDim S4x1x2048x1 ![] bcast_S_S4x1x2048x1 v0
  let v2 : FVec F S4x1x2048x1 .f32 := maximumf v1 arg0
  v2

def fn_part3 {F : FTy → Type} [FloatOps F] (main_v58 : IVec S4x2048x1 32) (main_v59 : FVec F S4x2048x1 .f32) : IVec S4x2048x1 1 :=
  let main_c_8 : IVec S_ 32 := constantI S_ 32 0#32
  let main_v60 : IVec S4x2048x1 32 := broadcastInDim S4x2048x1 ![] bcast_S_S4x2048x1 main_c_8
  let main_v61 : IVec S4x2048x1 1 := cmpi .eq main_v58 main_v60
  let main_cst_9 : FVec F S_ .f32 := constant S_ .f32 0xFF800000#32
  let main_v62 : FVec F S4x2048x1 .f32 := broadcastInDim S4x2048x1 ![] bcast_S_S4x2048x1 main_cst_9
  let main_v63 : IVec S4x2048x1 1 := cmpf .ogt main_v59 main_v62
  let main_v64 : IVec S4x2048x1 1 := andi main_v61 main_v63
  main_v64

def fn_part2 {F : FTy → Type} [FloatOps F] (main_v10 : FVec F S4x2048x1 .f32) (main_v22 : FVec F S4x2048x2048 .f32) (main_v36 : FVec F S4x2048x2048 .f32) (main_v37 : FVec F S4x2048 .f32) (main_v39 : FVec F S4x1 .f32) : IVec S4x2048x1 1 :=
  let main_v40 : FVec F S4x1x1 .f32 := broadcastInDim S4x1x1 ![0, 1] bcast_S4x1_S4x1x1_0_1 main_v39
  let main_cst_7 : FVec F S_ .f32 := constant S_ .f32 0x7F800000#32
  let main_v41 : FVec F S4 .f32 := (fun x v => Host.reduce FloatOps.minimumf x v reducesTo_S4x2048_S4_d1 h_S_) main_v37 main_cst_7
  let main_v42 : FVec F S4x1 .f32 := broadcastInDim S4x1 ![0] bcast_S4_S4x1_0 main_v41
  let main_v43 : FVec F S4x1x1 .f32 := broadcastInDim S4x1x1 ![0, 1] bcast_S4x1_S4x1x1_0_1 main_v42
  let main_v44 : FVec F S4x2048x1 .f32 := broadcastInDim S4x2048x1 ![0, 1, 2] bcast_S4x1x1_S4x2048x1_0_1_2 main_v43
  let main_v45 : FVec F S4x2048x1 .f32 := subf main_v10 main_v44
  let main_v46 : FVec F S4x1x1 .f32 := subf main_v40 main_v43
  let main_v47 : FVec F S4x2048x1 .f32 := broadcastInDim S4x2048x1 ![0, 1, 2] bcast_S4x1x1_S4x2048x1_0_1_2 main_v46
  let main_v48 : FVec F S4x2048x1 .f32 := Host.divf main_v45 main_v47
  let main_v49 : FVec F S4x2048x2048 .f32 := broadcastInDim S4x2048x2048 ![0, 1, 2] bcast_S4x2048x1_S4x2048x2048_0_1_2 main_v48
  let main_v50 : FVec F S4x2048x2048 .f32 := mulf main_v36 main_v49
  let main_v51 : FVec F S4x2048x2048 .f32 := addf main_v22 main_v50
  let main_v52 : FVec F S4x2048x2048 .f32 := Host.negf main_v51
  let main_values : FVec F S4x2048x31 .f32 := (fun x => (Host.topK S4x2048x31 2 (FloatOps.cmpfTotal .gt) x sliceFits_S4x2048x2048_S4x2048x31).1) main_v52
  let main_indices : IVec S4x2048x31 32 := (fun x => (Host.topK S4x2048x31 2 (FloatOps.cmpfTotal .gt) x sliceFits_S4x2048x2048_S4x2048x31).2) main_v52
  let main_v53 : FVec F S4x2048x30 .f32 := (extractStridedSlice S4x2048x30 ![0, 0, 0] · slices_S4x2048x31_S4x2048x30_0_0_0) main_values
  let main_v54 : FVec F S4x2048x30 .f32 := (extractStridedSlice S4x2048x30 ![0, 0, 1] · slices_S4x2048x31_S4x2048x30_0_0_1) main_values
  let main_v55 : IVec S4x2048x30 1 := cmpf .ole main_v53 main_v54
  let main_v56 : IVec S4x2048x30 32 := (extui 32 · natLt_1_32) main_v55
  let main_c : IVec S_ 32 := constantI S_ 32 0#32
  let main_v57 : IVec S4x2048 32 := (fun x v => Host.reduce IntOp.addi x v reducesTo_S4x2048x30_S4x2048_d2 h_S_) main_v56 main_c
  let main_v58 : IVec S4x2048x1 32 := broadcastInDim S4x2048x1 ![0, 1] bcast_S4x2048_S4x2048x1_0_1 main_v57
  let main_v59 : FVec F S4x2048x1 .f32 := (extractStridedSlice S4x2048x1 ![0, 0, 30] · slices_S4x2048x31_S4x2048x1_0_0_30) main_values
  fn_part3 (F := F) main_v58 main_v59

def fn_part1 {F : FTy → Type} [FloatOps F] (main_v10 : FVec F S4x2048x1 .f32) (main_v17 : FVec F S4x2048x1 .f32) (main_v19 : FVec F S4x2048x2048 .f32) : IVec S4x2048x1 1 :=
  let main_v20 : FVec F S4x1x2048 .f32 := (transpose S4x1x2048 [0, 2, 1] · transposes_S4x2048x1_S4x1x2048_0_2_1) main_v17
  let main_v21 : FVec F S4x2048x2048 .f32 := broadcastInDim S4x2048x2048 ![0, 1, 2] bcast_S4x1x2048_S4x2048x2048_0_1_2 main_v20
  let main_v22 : FVec F S4x2048x2048 .f32 := addf main_v19 main_v21
  let main_v23 : FVec F S4x1x2048 .f32 := (transpose S4x1x2048 [0, 2, 1] · transposes_S4x2048x1_S4x1x2048_0_2_1) main_v10
  let main_v24 : FVec F S4x2048x2048 .f32 := (fun l r => Host.dotGeneral dot_S4x2048x1_S4x1x2048_S4x2048x2048_2_1_1_2_0_0 none l r) main_v10 main_v23
  let main_cst_3 : FVec F S_ .f32 := constant S_ .f32 0xC0000000#32
  let main_v25 : FVec F S4x2048x2048 .f32 := broadcastInDim S4x2048x2048 ![] bcast_S_S4x2048x2048 main_cst_3
  let main_v26 : FVec F S4x2048x2048 .f32 := mulf main_v25 main_v24
  let main_v27 : FVec F S4x2048x1 .f32 := mulf main_v10 main_v10
  let main_cst_4 : FVec F S_ .f32 := constant S_ .f32 0x00000000#32
  let main_v28 : FVec F S4x2048 .f32 := (fun x v => Host.reduceAdd x v reducesTo_S4x2048x1_S4x2048_d2 h_S_) main_v27 main_cst_4
  let main_v29 : FVec F S4x2048x1 .f32 := broadcastInDim S4x2048x1 ![0, 1] bcast_S4x2048_S4x2048x1_0_1 main_v28
  let main_v30 : FVec F S4x2048x2048 .f32 := broadcastInDim S4x2048x2048 ![0, 1, 2] bcast_S4x2048x1_S4x2048x2048_0_1_2 main_v29
  let main_v31 : FVec F S4x2048x2048 .f32 := addf main_v30 main_v26
  let main_v32 : FVec F S4x1x2048 .f32 := (transpose S4x1x2048 [0, 2, 1] · transposes_S4x2048x1_S4x1x2048_0_2_1) main_v29
  let main_v33 : FVec F S4x2048x2048 .f32 := broadcastInDim S4x2048x2048 ![0, 1, 2] bcast_S4x1x2048_S4x2048x2048_0_1_2 main_v32
  let main_v34 : FVec F S4x2048x2048 .f32 := addf main_v31 main_v33
  let main_cst_5 : FVec F S_ .f32 := constant S_ .f32 0x3F800000#32
  let main_v35 : FVec F S4x2048x2048 .f32 := broadcastInDim S4x2048x2048 ![] bcast_S_S4x2048x2048 main_cst_5
  let main_v36 : FVec F S4x2048x2048 .f32 := mulf main_v34 main_v35
  let main_v37 : FVec F S4x2048 .f32 := shapeCast S4x2048 main_v10 shapeCasts_S4x2048x1_S4x2048
  let main_cst_6 : FVec F S_ .f32 := constant S_ .f32 0xFF800000#32
  let main_v38 : FVec F S4 .f32 := (fun x v => Host.reduce FloatOps.maximumf x v reducesTo_S4x2048_S4_d1 h_S_) main_v37 main_cst_6
  let main_v39 : FVec F S4x1 .f32 := broadcastInDim S4x1 ![0] bcast_S4_S4x1_0 main_v38
  fn_part2 (F := F) main_v10 main_v22 main_v36 main_v37 main_v39

def fn {F : FTy → Type} [FloatOps F] (main_arg0 : FVec F S4x256x2048x1 .f32) (main_arg1 : FVec F S4x1x2048x1 .f32) : IVec S4x2048x1 1 :=
  let main_v0 : FVec F S4x256x2048x1 .f32 := mulf main_arg0 main_arg0
  let main_cst : FVec F S_ .f32 := constant S_ .f32 0x00000000#32
  let main_v1 : FVec F S4x2048x1 .f32 := (fun x v => Host.reduceAdd x v reducesTo_S4x256x2048x1_S4x2048x1_d1 h_S_) main_v0 main_cst
  let main_v2 : FVec F S4x1x2048x1 .f32 := broadcastInDim S4x1x2048x1 ![0, 2, 3] bcast_S4x2048x1_S4x1x2048x1_0_2_3 main_v1
  let main_v3 : FVec F S4x1x2048x1 .f32 := Host.sqrt main_v2
  let main_cst_0 : FVec F S_ .f32 := constant S_ .f32 0x2B8CBCCC#32
  let main_v4 : FVec F S4x1x2048x1 .f32 := fn_clip (F := F) main_v3 main_cst_0
  let main_v5 : FVec F S4x256x2048x1 .f32 := broadcastInDim S4x256x2048x1 ![0, 1, 2, 3] bcast_S4x1x2048x1_S4x256x2048x1_0_1_2_3 main_v4
  let main_v6 : FVec F S4x256x2048x1 .f32 := Host.divf main_arg0 main_v5
  let main_v7 : FVec F S4x2048x256x1 .f32 := (transpose S4x2048x256x1 [0, 2, 1, 3] · transposes_S4x256x2048x1_S4x2048x256x1_0_2_1_3) main_v6
  let main_v8 : FVec F S4x2048x256 .f32 := shapeCast S4x2048x256 main_v7 shapeCasts_S4x2048x256x1_S4x2048x256
  let main_v9 : FVec F S4x2048x1x1 .f32 := (transpose S4x2048x1x1 [0, 2, 1, 3] · transposes_S4x1x2048x1_S4x2048x1x1_0_2_1_3) main_arg1
  let main_v10 : FVec F S4x2048x1 .f32 := shapeCast S4x2048x1 main_v9 shapeCasts_S4x2048x1x1_S4x2048x1
  let main_v11 : FVec F S4x256x2048 .f32 := (transpose S4x256x2048 [0, 2, 1] · transposes_S4x2048x256_S4x256x2048_0_2_1) main_v8
  let main_v12 : FVec F S4x2048x2048 .f32 := (fun l r => Host.dotGeneral dot_S4x2048x256_S4x256x2048_S4x2048x2048_2_1_1_2_0_0 none l r) main_v8 main_v11
  let main_cst_1 : FVec F S_ .f32 := constant S_ .f32 0xC0000000#32
  let main_v13 : FVec F S4x2048x2048 .f32 := broadcastInDim S4x2048x2048 ![] bcast_S_S4x2048x2048 main_cst_1
  let main_v14 : FVec F S4x2048x2048 .f32 := mulf main_v13 main_v12
  let main_v15 : FVec F S4x2048x256 .f32 := mulf main_v8 main_v8
  let main_cst_2 : FVec F S_ .f32 := constant S_ .f32 0x00000000#32
  let main_v16 : FVec F S4x2048 .f32 := (fun x v => Host.reduceAdd x v reducesTo_S4x2048x256_S4x2048_d2 h_S_) main_v15 main_cst_2
  let main_v17 : FVec F S4x2048x1 .f32 := broadcastInDim S4x2048x1 ![0, 1] bcast_S4x2048_S4x2048x1_0_1 main_v16
  let main_v18 : FVec F S4x2048x2048 .f32 := broadcastInDim S4x2048x2048 ![0, 1, 2] bcast_S4x2048x1_S4x2048x2048_0_1_2 main_v17
  let main_v19 : FVec F S4x2048x2048 .f32 := addf main_v18 main_v14
  fn_part1 (F := F) main_v10 main_v17 main_v19
-- ==== Kernel.lean ====
abbrev S4x256x2048x1 : Shape := ⟨4, ![4, 256, 2048, 1]⟩
abbrev S4x1x2048x1 : Shape := ⟨4, ![4, 1, 2048, 1]⟩
abbrev S4x256x2048 : Shape := ⟨3, ![4, 256, 2048]⟩
abbrev S4x2048x256 : Shape := ⟨3, ![4, 2048, 256]⟩
abbrev S4x2048 : Shape := ⟨2, ![4, 2048]⟩
abbrev S4x2048x1 : Shape := ⟨3, ![4, 2048, 1]⟩
abbrev S4x1x2048 : Shape := ⟨3, ![4, 1, 2048]⟩
abbrev S4x2048x16 : Shape := ⟨3, ![4, 2048, 16]⟩
abbrev S1x256x256 : Shape := ⟨3, ![1, 256, 256]⟩
abbrev S1x256x2048 : Shape := ⟨3, ![1, 256, 2048]⟩
abbrev S1x256x1 : Shape := ⟨3, ![1, 256, 1]⟩
abbrev S1x1x2048 : Shape := ⟨3, ![1, 1, 2048]⟩
abbrev S1x256x16 : Shape := ⟨3, ![1, 256, 16]⟩
abbrev S256x256 : Shape := ⟨2, ![256, 256]⟩
abbrev S256x2048 : Shape := ⟨2, ![256, 2048]⟩
abbrev S256x1 : Shape := ⟨2, ![256, 1]⟩
abbrev S1x2048 : Shape := ⟨2, ![1, 2048]⟩
abbrev S256 : Shape := ⟨1, ![256]⟩
abbrev S2048 : Shape := ⟨1, ![2048]⟩
abbrev S1 : Shape := ⟨1, ![1]⟩
abbrev S1x1x1 : Shape := ⟨3, ![1, 1, 1]⟩
abbrev S256x16 : Shape := ⟨2, ![256, 16]⟩
abbrev S1x2048x1 : Shape := ⟨3, ![1, 2048, 1]⟩
abbrev S1x4x2048x16 : Shape := ⟨4, ![1, 4, 2048, 16]⟩
abbrev S2x4x2048x16 : Shape := ⟨4, ![2, 4, 2048, 16]⟩

abbrev nBuf : Space → Nat
  | .hbm => 14
  | .vmem => 10
  | .smem => 0
  | _ => 0

abbrev bufTy : (tb : Table) → Fin (tcTables nBuf tb) → BufTy
  | .hbm, ⟨0, _⟩ => ⟨S4x256x2048x1, .f32⟩
  | .hbm, ⟨1, _⟩ => ⟨S4x1x2048x1, .f32⟩
  | .hbm, ⟨2, _⟩ => ⟨S4x256x2048, .f32⟩
  | .hbm, ⟨3, _⟩ => ⟨S4x2048x256, .f32⟩
  | .hbm, ⟨4, _⟩ => ⟨S4x2048, .f32⟩
  | .hbm, ⟨5, _⟩ => ⟨S4x2048x1, .f32⟩
  | .hbm, ⟨6, _⟩ => ⟨S4x1x2048, .f32⟩
  | .hbm, ⟨7, _⟩ => ⟨S4x2048x16, .i32⟩
  | .hbm, ⟨8, _⟩ => ⟨S2048, .i32⟩
  | .hbm, ⟨9, _⟩ => ⟨S1x2048x1, .i32⟩
  | .hbm, ⟨10, _⟩ => ⟨S4x2048x16, .i32⟩
  | .hbm, ⟨11, _⟩ => ⟨S1x4x2048x16, .i32⟩
  | .hbm, ⟨12, _⟩ => ⟨S1x4x2048x16, .i32⟩
  | .hbm, ⟨13, _⟩ => ⟨S2x4x2048x16, .i32⟩
  | .local _ .vmem, ⟨0, _⟩ => ⟨S1x256x256, .f32⟩
  | .local _ .vmem, ⟨1, _⟩ => ⟨S1x256x256, .f32⟩
  | .local _ .vmem, ⟨2, _⟩ => ⟨S1x256x2048, .f32⟩
  | .local _ .vmem, ⟨3, _⟩ => ⟨S1x256x2048, .f32⟩
  | .local _ .vmem, ⟨4, _⟩ => ⟨S1x256x1, .f32⟩
  | .local _ .vmem, ⟨5, _⟩ => ⟨S1x256x1, .f32⟩
  | .local _ .vmem, ⟨6, _⟩ => ⟨S1x1x2048, .f32⟩
  | .local _ .vmem, ⟨7, _⟩ => ⟨S1x1x2048, .f32⟩
  | .local _ .vmem, ⟨8, _⟩ => ⟨S1x256x16, .i32⟩
  | .local _ .vmem, ⟨9, _⟩ => ⟨S1x256x16, .i32⟩
  | _, _ => ⟨S4x256x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x256x2048x1 : Shape := ⟨4, ![4, 256, 2048, 1]⟩
abbrev S4x1x2048x1 : Shape := ⟨4, ![4, 1, 2048, 1]⟩
abbrev S_ : Shape := ⟨0, ![]⟩
abbrev S4x2048x1 : Shape := ⟨3, ![4, 2048, 1]⟩
abbrev S4x2048x256x1 : Shape := ⟨4, ![4, 2048, 256, 1]⟩
abbrev S4x2048x256 : Shape := ⟨3, ![4, 2048, 256]⟩
abbrev S4x2048x1x1 : Shape := ⟨4, ![4, 2048, 1, 1]⟩
abbrev S4x256x2048 : Shape := ⟨3, ![4, 256, 2048]⟩
abbrev S4x2048x2048 : Shape := ⟨3, ![4, 2048, 2048]⟩
abbrev S4x2048 : Shape := ⟨2, ![4, 2048]⟩
abbrev S4x1x2048 : Shape := ⟨3, ![4, 1, 2048]⟩
abbrev S4 : Shape := ⟨1, ![4]⟩
abbrev S4x1 : Shape := ⟨2, ![4, 1]⟩
abbrev S4x1x1 : Shape := ⟨3, ![4, 1, 1]⟩
abbrev S4x2048x32 : Shape := ⟨3, ![4, 2048, 32]⟩
abbrev S2048 : Shape := ⟨1, ![2048]⟩
abbrev S1x2048x1 : Shape := ⟨3, ![1, 2048, 1]⟩
abbrev S1x4x2048x32 : Shape := ⟨4, ![1, 4, 2048, 32]⟩
abbrev S2x4x2048x32 : Shape := ⟨4, ![2, 4, 2048, 32]⟩
abbrev S2x4x2048x16 : Shape := ⟨4, ![2, 4, 2048, 16]⟩

abbrev nBuf : Space → Nat
  | .hbm => 75
  | .vmem => 0
  | .smem => 0
  | _ => 0

abbrev bufTy : (tb : Table) → Fin (tcTables nBuf tb) → BufTy
  | .hbm, ⟨0, _⟩ => ⟨S4x256x2048x1, .f32⟩
  | .hbm, ⟨1, _⟩ => ⟨S4x1x2048x1, .f32⟩
  | .hbm, ⟨2, _⟩ => ⟨S4x256x2048x1, .f32⟩
  | .hbm, ⟨3, _⟩ => ⟨S_, .f32⟩
  | .hbm, ⟨4, _⟩ => ⟨S4x2048x1, .f32⟩
  | .hbm, ⟨5, _⟩ => ⟨S4x1x2048x1, .f32⟩
  | .hbm, ⟨6, _⟩ => ⟨S4x1x2048x1, .f32⟩
  | .hbm, ⟨7, _⟩ => ⟨S_, .f32⟩
  | .hbm, ⟨8, _⟩ => ⟨S_, .f32⟩
  | .hbm, ⟨9, _⟩ => ⟨S4x1x2048x1, .f32⟩
  | .hbm, ⟨10, _⟩ => ⟨S4x1x2048x1, .f32⟩
  | .hbm, ⟨11, _⟩ => ⟨S4x256x2048x1, .f32⟩
  | .hbm, ⟨12, _⟩ => ⟨S4x256x2048x1, .f32⟩
  | .hbm, ⟨13, _⟩ => ⟨S4x2048x256x1, .f32⟩
  | .hbm, ⟨14, _⟩ => ⟨S4x2048x256, .f32⟩
  | .hbm, ⟨15, _⟩ => ⟨S4x2048x1x1, .f32⟩
  | .hbm, ⟨16, _⟩ => ⟨S4x2048x1, .f32⟩
  | .hbm, ⟨17, _⟩ => ⟨S4x256x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x1x2048, .f32⟩
  | .hbm, ⟨32, _⟩ => ⟨S4x2048x2048, .f32⟩
  | .hbm, ⟨33, _⟩ => ⟨S_, .f32⟩
  | .hbm, ⟨34, _⟩ => ⟨S4x2048x2048, .f32⟩
  | .hbm, ⟨35, _⟩ => ⟨S4x2048x2048, .f32⟩
  | .hbm, ⟨36, _⟩ => ⟨S4x2048x1, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x1x2048, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S4x2048, .f32⟩
  | .hbm, ⟨49, _⟩ => ⟨S_, .f32⟩
  | .hbm, ⟨50, _⟩ => ⟨S4, .f32⟩
  | .hbm, ⟨51, _⟩ => ⟨S4x1, .f32⟩
  | .hbm, ⟨52, _⟩ => ⟨S4x1x1, .f32⟩
  | .hbm, ⟨53, _⟩ => ⟨S_, .f32⟩
  | .hbm, ⟨54, _⟩ => ⟨S4, .f32⟩
  | .hbm, ⟨55, _⟩ => ⟨S4x1, .f32⟩
  | .hbm, ⟨56, _⟩ => ⟨S4x1x1, .f32⟩
  | .hbm, ⟨57, _⟩ => ⟨S4x2048x1, .f32⟩
  | .hbm, ⟨58, _⟩ => ⟨S4x2048x1, .f32⟩
  | .hbm, ⟨59, _⟩ => ⟨S4x1x1, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x32, .f32⟩
  | .hbm, ⟨67, _⟩ => ⟨S4x2048x32, .i32⟩
  | .hbm, ⟨68, _⟩ => ⟨S2048, .i32⟩
  | .hbm, ⟨69, _⟩ => ⟨S1x2048x1, .i32⟩
  | .hbm, ⟨70, _⟩ => ⟨S4x2048x32, .i32⟩
  | .hbm, ⟨71, _⟩ => ⟨S1x4x2048x32, .i32⟩
  | .hbm, ⟨72, _⟩ => ⟨S1x4x2048x32, .i32⟩
  | .hbm, ⟨73, _⟩ => ⟨S2x4x2048x32, .i32⟩
  | .hbm, ⟨74, _⟩ => ⟨S2x4x2048x16, .i32⟩
  | _, _ => ⟨S4x256x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_values : Ref sig .tc := ⟨.hbm, 66, rfl⟩
abbrev main_indices : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Proof.Rounds.lean ====
/-
  ONE ROW OF DISTANCES, ROUND BY ROUND. The kernel finds the nearest columns of a row by repeating: take the row's
  minimum, note the first column that attains it, overwrite EVERY column that attains it with `⊤`. Here the rounds are
  functions of a row `d : Fin n → EReal`, and they are compared with an ordering of the columns: `Ranked d σ` says that
  `σ` lists all columns nearest first, equal distances by column number. Where the first `R + 1` ranks of `σ` hold
  strictly increasing distances below `⊤`, round `r ≤ R` meets exactly the columns of rank `r` and above
  (`left_eq`), its minimum is the distance of rank `r` (`least_left`), and the first column it finds is `σ r`
  (`first_left`). The stable sort that a top-k makes of the negated row is such an ordering (`ranked_sortedFrom`).
-/
module

public import Idealize.ShloMosaic.Lib.SortFacts
public import Idealize.ShloMosaic.Lib.SortPrefix
public import Idealize.ShloMosaic.Lib.SortNet.Extract
public import Idealize.ShloMosaic.PureOps.Ideal.Laws

@[expose] public section

noncomputable section

namespace Cert.Knn

open Idealize.ShloMosaic

/-! ## Folds that meet their own least element -/

/-- A fold of an operation that `w` absorbs everything under, over a set in which some value is `w`, is `w`. -/
theorem fold_absorb {α ι : Type} [DecidableEq ι] (op : α → α → α) [hc : Std.Commutative op] [ha : Std.Associative op]
    (b w : α) (f : ι → α) (s : Finset ι) (j : ι) (hj : j ∈ s) (hw : f j = w) (hb : op w b = w)
    (hf : ∀ i ∈ s, op w (f i) = w) : s.fold op b f = w := by
  have key : ∀ t : Finset ι, (∀ i ∈ t, op w (f i) = w) → op w (t.fold op b f) = w := by
    intro t
    induction t using Finset.induction_on with
    | empty => intro _; rw [Finset.fold_empty]; exact hb
    | insert i t hi ih =>
      intro h
      rw [Finset.fold_insert hi, ← ha.assoc, h i (Finset.mem_insert_self i t)]
      exact ih fun k hk => h k (Finset.mem_insert_of_mem hk)
  rw [← Finset.insert_erase hj, Finset.fold_insert (Finset.notMem_erase j s), hw]
  exact key _ fun i hi => hf i (Finset.mem_of_mem_erase hi)

/-! ## The rounds -/

variable {n : ℕ}

/-- The least distance of a row (`⊤` of an empty one). -/
def least (d : Fin n → EReal) : EReal := (Finset.univ : Finset (Fin n)).fold min ⊤ d

/-- The row after a round: every column that attains the minimum is out of the running. -/
def strike (d : Fin n → EReal) : Fin n → EReal := fun j => if d j = least d then ⊤ else d j

/-- The row as round `r` meets it. -/
def left (d : Fin n → EReal) : ℕ → Fin n → EReal
  | 0 => d
  | r + 1 => strike (left d r)

/-- What a column offers to the search for the first attaining column: its number if it attains the minimum, else `n`. -/
def offer (d : Fin n → EReal) (j : Fin n) : BitVec 32 := if d j = least d then BitVec.ofNat 32 j.val else BitVec.ofNat 32 n

/-- The first column that attains the minimum, as a signed minimum of words. -/
def first (d : Fin n → EReal) : BitVec 32 := (Finset.univ : Finset (Fin n)).fold IntOp.minsi 2147483647#32 (offer d)

/-- A value attained in the row and at most all of it is the row's least. -/
theorem least_eq (d : Fin n → EReal) (j : Fin n) (h : ∀ i, d j ≤ d i) : least d = d j :=
  fold_absorb min ⊤ (d j) d _ j (Finset.mem_univ j) rfl (min_eq_left le_top) fun i _ => min_eq_left (h i)

/-- The signed minimum of two words of numbers below `2 ^ 31` is the first if its number is the lesser. -/
theorem minsi_ofNat_of_le (a b : ℕ) (hb : b < 2 ^ 31) (h : a ≤ b) :
    IntOp.minsi (BitVec.ofNat 32 a) (BitVec.ofNat 32 b) = BitVec.ofNat 32 a := by
  have e : ∀ k : ℕ, k < 2 ^ 31 → (BitVec.ofNat 32 k).toInt = (k : ℤ) := by
    intro k hk
    rw [BitVec.toInt_eq_toNat_cond, BitVec.toNat_ofNat]
    rw [Nat.mod_eq_of_lt (by omega), if_pos (by omega)]
  apply BitVec.eq_of_toInt_eq
  rw [SortNet.toInt_minsi, e a (by omega), e b hb]
  exact min_eq_left (by exact_mod_cast h)

/-- The first attaining column is the attaining column of least number. -/
theorem first_eq (hn : n < 2 ^ 31) (d : Fin n → EReal) (j : Fin n) (hj : d j = least d)
    (h : ∀ i, d i = least d → j ≤ i) : first d = BitVec.ofNat 32 j.val := by
  refine fold_absorb IntOp.minsi _ _ (offer d) _ j (Finset.mem_univ j) (if_pos hj) ?_ fun i _ => ?_
  · exact minsi_ofNat_of_le j.val 2147483647 (by norm_num) (by omega)
  · unfold offer
    split
    · rename_i hi; exact minsi_ofNat_of_le _ _ (by omega) (h i hi)
    · exact minsi_ofNat_of_le _ _ hn (by omega)

/-! ## The rounds against an ordering of the columns -/

/-- `σ` lists every column of the row, nearest first, columns at equal distance by their number. -/
structure Ranked (d : Fin n → EReal) (σ : Fin n → Fin n) : Prop where
  onto : Function.Surjective σ
  ordered : ∀ i j : Fin n, i < j → d (σ i) < d (σ j) ∨ (d (σ i) = d (σ j) ∧ σ i < σ j)

namespace Ranked

variable {d : Fin n → EReal} {σ : Fin n → Fin n} (h : Ranked d σ)
include h

/-- Distances do not decrease along the ordering. -/
theorem le (i j : Fin n) (hij : i ≤ j) : d (σ i) ≤ d (σ j) := by
  rcases lt_or_eq_of_le hij with hlt | rfl
  · rcases h.ordered i j hlt with h1 | h1
    · exact le_of_lt h1
    · exact le_of_eq h1.1
  · exact le_refl _

/-- Where the ranks `0 … R` hold strictly increasing distances, round `r ≤ R` meets `⊤` at the columns nearer than rank
    `r`, and the row as given elsewhere. -/
theorem left_eq (R : ℕ) (hR : R < n) (hs : ∀ r (hr : r < R), d (σ ⟨r, by omega⟩) < d (σ ⟨r + 1, by omega⟩)) :
    ∀ r (hr : r ≤ R) (j : Fin n), left d r j = if d j < d (σ ⟨r, by omega⟩) then ⊤ else d j := by
  intro r
  induction r with
  | zero =>
    intro _ j
    obtain ⟨q, rfl⟩ := h.onto j
    have := h.le ⟨0, by omega⟩ q (Fin.mk_le_of_le_val (Nat.zero_le _))
    rw [if_neg (not_lt.mpr this)]
    rfl
  | succ r ih =>
    intro hr j
    have ihr := ih (by omega)
    have hmin : least (left d r) = d (σ ⟨r, by omega⟩) := by
      have hσ : left d r (σ ⟨r, by omega⟩) = d (σ ⟨r, by omega⟩) := by rw [ihr, if_neg (lt_irrefl _)]
      rw [← hσ]
      refine least_eq _ _ fun i => ?_
      rw [hσ, ihr i]
      split
      · exact le_top
      · rename_i hi; exact not_lt.mp hi
    show (if left d r j = least (left d r) then ⊤ else left d r j) = _
    rw [hmin, ihr j]
    have hstep := hs r (by omega)
    rcases lt_trichotomy (d j) (d (σ ⟨r, by omega⟩)) with hlt | heq | hgt
    · rw [if_pos hlt, if_pos (lt_trans hlt hstep)]
      split <;> rfl
    · have h0 : ¬ d j < d (σ ⟨r, by omega⟩) := by rw [heq]; exact lt_irrefl _
      have h1 : d j < d (σ ⟨r + 1, by omega⟩) := by rw [heq]; exact hstep
      rw [if_neg h0, if_pos heq, if_pos h1]
    · rw [if_neg (not_lt.mpr (le_of_lt hgt)), if_neg (ne_of_gt hgt), if_neg]
      obtain ⟨q, rfl⟩ := h.onto j
      have hq : r < q.val := by
        by_contra hq
        exact absurd hgt (not_lt.mpr (h.le q ⟨r, by omega⟩ (Fin.mk_le_mk.mpr (by omega))))
      exact not_lt.mpr (h.le ⟨r + 1, by omega⟩ q (Fin.mk_le_of_le_val (by simpa using hq)))

/-- Under the same condition the minimum that round `r` meets is the distance of rank `r`. -/
theorem least_left (R : ℕ) (hR : R < n) (hs : ∀ r (hr : r < R), d (σ ⟨r, by omega⟩) < d (σ ⟨r + 1, by omega⟩))
    (r : ℕ) (hr : r ≤ R) : least (left d r) = d (σ ⟨r, by omega⟩) := by
  have e := h.left_eq R hR hs r hr
  have hσ : left d r (σ ⟨r, by omega⟩) = d (σ ⟨r, by omega⟩) := by rw [e, if_neg (lt_irrefl _)]
  rw [← hσ]
  refine least_eq _ _ fun i => ?_
  rw [hσ, e i]
  split
  · exact le_top
  · rename_i hi; exact not_lt.mp hi

/-- If moreover rank `R` is at a distance below `⊤`, the first column that round `r ≤ R` finds is the column of rank `r`. -/
theorem first_left (hn : n < 2 ^ 31) (R : ℕ) (hR : R < n)
    (hs : ∀ r (hr : r < R), d (σ ⟨r, by omega⟩) < d (σ ⟨r + 1, by omega⟩)) (htop : d (σ ⟨R, hR⟩) < ⊤)
    (r : ℕ) (hr : r ≤ R) : first (left d r) = BitVec.ofNat 32 (σ ⟨r, by omega⟩).val := by
  have e := h.left_eq R hR hs r hr
  have hm := h.least_left R hR hs r hr
  have hlt : d (σ ⟨r, by omega⟩) < ⊤ :=
    lt_of_le_of_lt (h.le ⟨r, by omega⟩ ⟨R, hR⟩ (Fin.mk_le_mk.mpr hr)) htop
  refine first_eq hn _ _ (by rw [hm, e, if_neg (lt_irrefl _)]) fun i hi => ?_
  rw [hm, e i] at hi
  have hdi : d i = d (σ ⟨r, by omega⟩) := by
    by_cases hc : d i < d (σ ⟨r, by omega⟩)
    · rw [if_pos hc] at hi; exact absurd hi.symm (ne_of_lt hlt)
    · rwa [if_neg hc] at hi
  obtain ⟨q, rfl⟩ := h.onto i
  rcases lt_trichotomy q ⟨r, by omega⟩ with hq | hq | hq
  · exfalso
    have hq' : q.val < r := hq
    have h1 := h.le q ⟨r - 1, by omega⟩ (Fin.mk_le_mk.mpr (by omega))
    have h2 := hs (r - 1) (by omega)
    have h3 : (⟨r - 1 + 1, by omega⟩ : Fin n) = ⟨r, by omega⟩ := Fin.ext (by simp; omega)
    rw [h3] at h2
    exact absurd hdi (ne_of_lt (lt_of_le_of_lt h1 h2))
  · rw [hq]
  · rcases h.ordered _ _ hq with h1 | h1
    · exact absurd hdi.symm (ne_of_lt h1)
    · exact le_of_lt h1.2

end Ranked

/-! ## The stable sort is such an ordering -/

/-- Two comparators that agree on "later before earlier" sort an ascending list of positions alike. -/
theorem stableSort_congr_ascending (B B' : Fin n → Fin n → Bool) (l : List (Fin n)) (hl : l.Pairwise (· < ·))
    (h : ∀ a b, a < b → B b a = B' b a) : stableSort B l = stableSort B' l := by
  induction l with
  | nil => rfl
  | cons a l ih =>
    rw [List.pairwise_cons] at hl
    unfold stableSort
    rw [ih hl.2]
    exact insertBefore_congr B B' a _ fun b hb => h a b (hl.1 b ((perm_stableSort B' l).mem_iff.mp hb))

/-- The comparator "nearer" alone, and the comparator "nearer, or as near and of lesser number", sort the columns alike. -/
theorem sortedFrom_nearer (d : Fin n → EReal) :
    sortedFrom (fun k k' : Fin n => decide (d k < d k'))
      = sortedFrom (fun k k' : Fin n => decide (d k < d k') || (decide (d k = d k') && decide (k < k'))) := by
  have e := stableSort_congr_ascending (fun k k' : Fin n => decide (d k < d k'))
    (fun k k' : Fin n => decide (d k < d k') || (decide (d k = d k') && decide (k < k'))) (List.finRange n)
    (List.pairwise_lt_finRange n) (fun a b hab => by simp [not_lt.mpr (le_of_lt hab)])
  funext k
  unfold sortedFrom
  rw [List.get_of_eq (show sortPositions n _ = sortPositions n _ from e)]
  rfl

/-- The stable sort of the columns by distance lists them nearest first, equal distances by column number. -/
theorem ranked_sortedFrom (d : Fin n → EReal) : Ranked d (sortedFrom fun k k' : Fin n => decide (d k < d k')) := by
  refine ⟨sortedFrom_surjective _, fun i j hij => ?_⟩
  have hB := StrictTotalBefore.of_key_then_position (fun a b : EReal => decide (a < b)) d (by simp)
    (fun a b c h1 h2 => by simp only [decide_eq_true_eq] at *; exact lt_trans h1 h2)
    (fun a b => by simp only [decide_eq_true_eq]; exact lt_trichotomy a b)
  rw [sortedFrom_nearer]
  have hne : sortedFrom _ i ≠ sortedFrom _ j := fun hc => (ne_of_lt hij)
    (sortedFrom_injective (fun k k' : Fin n => decide (d k < d k') || (decide (d k = d k') && decide (k < k'))) hc)
  have hno := sortedFrom_noInversion _ _ hB.asymm (fun _ _ h => h) hB.negTrans i j hij
  rcases hB.total _ _ hne with h1 | h1
  · simpa only [Bool.or_eq_true, Bool.and_eq_true, decide_eq_true_eq] using h1
  · rw [h1] at hno; exact absurd hno (by decide)

end Cert.Knn

end
-- ==== Proof.Distance.lean ====
/-
  THE DISTANCE BETWEEN TWO POINTS. A point has a feature vector `f : Fin 256 → EReal` and a gaze number. Features are
  first scaled to unit length (`unit`: divided by their norm, which is kept from below by a small number); `gap f g` is the
  squared length of the difference of two scaled vectors, expanded as `|f|² − 2 f·g + |g|²`, and `gazeGap a b` the same of
  two gaze numbers. The distance adds to the first gap the second one, weighted by where the row's own gaze number lies
  between the least and the greatest of its batch (`weight`).
-/
module

public import proofs.«01_k».proof.Proof.Rounds
public import Idealize.ShloMosaic.Lib.Pointwise

@[expose] public section

noncomputable section

namespace Cert.Knn

open Idealize.ShloMosaic

/-- The constant minus two, as both programs print it. -/
def minusTwo : EReal := Ideal.ofBits .f32 0xC0000000#32

/-- A feature vector divided by its norm, the norm kept from below. -/
def unit (f : Fin 256 → EReal) : Fin 256 → EReal := fun k =>
  Ideal.div (f k) (max (Ideal.ofBits .f32 0x2B8CBCCC#32) (Ideal.sqrt (∑ k, f k * f k)))

/-- The squared length of the difference of two scaled feature vectors, expanded. -/
def gap (f g : Fin 256 → EReal) : EReal :=
  ∑ k, unit f k * unit f k + minusTwo * ∑ k, unit f k * unit g k + ∑ k, unit g k * unit g k

/-- The squared difference of two gaze numbers, expanded. -/
def gazeGap (a b : EReal) : EReal := a * a + minusTwo * (a * b) + b * b

/-- The greatest of a row of numbers (`⊥` of an empty one). -/
def most {n : ℕ} (g : Fin n → EReal) : EReal := (Finset.univ : Finset (Fin n)).fold max ⊥ g

/-- Where `a` lies between the least and the greatest gaze number of its batch. -/
def weight {n : ℕ} (G : Fin n → EReal) (a : EReal) : EReal := Ideal.div (a - least G) (most G - least G)

/-- The distance of a point (features `f`, gaze number `a`) to another (`g`, `b`) in a batch of gaze numbers `G`. -/
def dist {n : ℕ} (G : Fin n → EReal) (f g : Fin 256 → EReal) (a b : EReal) : EReal := gap f g + gazeGap a b * weight G a

/-! ## Two folds and two constants -/

/-- A fold over pairs whose first component has one value is the fold over the second component. -/
theorem fold_one_pair {α : Type} {n : ℕ} (op : α → α → α) [Std.Commutative op] [Std.Associative op] (b : α)
    (f : Fin 1 × Fin n → α) : (Finset.univ : Finset (Fin 1 × Fin n)).fold op b f
      = (Finset.univ : Finset (Fin n)).fold op b fun j => f (0, j) := by
  have h : (Finset.univ : Finset (Fin 1 × Fin n))
      = (Finset.univ : Finset (Fin n)).map ⟨fun j => ((0 : Fin 1), j), fun _ _ e => (Prod.mk.inj e).2⟩ := by
    ext ⟨a, j⟩
    simp [Subsingleton.elim (0 : Fin 1) a]
  rw [h, Finset.fold_map]
  rfl

/-- The word of positive infinity denotes `⊤`. -/
theorem ofBits_top : Ideal.ofBits .f32 0x7F800000#32 = ⊤ := by
  simp [Ideal.ofBits, Ideal.ieee]

/-- The word of negative infinity denotes `⊥`. -/
theorem ofBits_bot : Ideal.ofBits .f32 0xFF800000#32 = ⊥ := by
  simp [Ideal.ofBits, Ideal.ieee]

end Cert.Knn

end
-- ==== Proof.RoundVectors.lean ====
/-
  WHAT THE ROUNDS OF ONE BLOCK COMPUTE. A block holds a matrix of distances, one row per query. A round of the kernel
  finds every row's minimum, marks the columns that attain it (`hitV`), picks the first of them (`pickV`) and overwrites
  all of them with `⊤` (`nextV`). The printed kernel writes thirty-one such rounds out one after another; here each
  printed value is shown to be the vector of its round (`roundV`), and the vectors of a round are read at an index
  (`hitV_apply`, `nextV_apply`, `pickV_apply`).
-/
module

public import proofs.«01_k».proof.Proof.Gen.KernelIdeal.Frame
public import proofs.«01_k».proof.Proof.Distance
public import Idealize.ShloMosaic.Lib.Pipeline.Value
public import Idealize.ShloMosaic.Lib.Pointwise
public import Idealize.ShloMosaic.PureOps.Ideal.Laws

@[expose] public section

noncomputable section

namespace Cert.Knn

open Idealize.ShloMosaic Cert.KernelIdeal Cert.KernelIdeal.Gen

variable {F : FTy → Type} [FloatOps F]

/-! ## One round on a block of rows -/

/-- Every entry replaced by its row's minimum. -/
def minV (D : FVec F S256x2048 .f32) : FVec F S256x2048 .f32 :=
  broadcastTo S256x2048 (shapeCast S256x1 (multiReduction .minimumf [1] S256 D 0x7F800000#32 reduces_S256x2048_S256
    (.inl rfl) rfl) shapeCasts_S256_S256x1) broadcasts_S256x1_S256x2048

/-- The entries that attain their row's minimum. -/
def hitV (D : FVec F S256x2048 .f32) : IVec S256x2048 1 := cmpf .oeq D (minV D)

/-- The block after a round: every entry that attains its row's minimum overwritten with `⊤`. -/
def nextV (D : FVec F S256x2048 .f32) : FVec F S256x2048 .f32 :=
  select (hitV D) (broadcast S256x2048 (Scalar.ofBits .f32 0x7F800000#32)) D

/-- The column numbers. -/
def colsV : IVec S256x2048 32 := iota .tc S256x2048 32 [1] iota_S256x2048_d1_w32

/-- The column number where the row's minimum is attained, and 2048 elsewhere. -/
def aimV (D : FVec F S256x2048 .f32) : IVec S256x2048 32 := select (hitV D) colsV (broadcast S256x2048 2048#32)

/-- The least of a row of numbers, as a column. -/
def leastOfV (I : IVec S256x2048 32) : IVec S256x1 32 :=
  shapeCast S256x1 (multiReductionI .minsi [1] S256 I 2147483647#32 reduces_S256x2048_S256 rfl) shapeCasts_S256_S256x1

/-- The first column that attains its row's minimum. -/
def pickV (D : FVec F S256x2048 .f32) : IVec S256x1 32 := leastOfV (aimV D)

/-- The block as round `r` meets it. -/
def roundV (D : FVec F S256x2048 .f32) : ℕ → FVec F S256x2048 .f32
  | 0 => D
  | r + 1 => nextV (roundV D r)

/-! ## The printed values are these vectors -/

section Printed

variable (v5 : FVec F S256x1 .f32) (v7 : FVec F S1x2048 .f32) (v36 : FVec F S256x2048 .f32) (v37 : FVec F S1x1x2048 .f32)
  (D : FVec F S256x2048 .f32)

theorem pay8_eq : k0_pay8 v5 v7 v36 v37 = hitV (k0_pay7 v5 v7 v36 v37) := rfl
theorem pay9_eq : k0_pay9 v5 v7 v36 v37 = pickV (k0_pay7 v5 v7 v36 v37) := rfl
theorem pay10_eq : k0_pay10 v5 v7 v36 v37 = nextV (nextV (k0_pay7 v5 v7 v36 v37)) := rfl
theorem pay11_eq : k0_pay11 v5 v7 v36 v37 = hitV (k0_pay10 v5 v7 v36 v37) := rfl
theorem pay13_eq : k0_pay13 (k0_pay12 v5 v7 v36 v37) = pickV (k0_pay10 v5 v7 v36 v37) := rfl
theorem pay14_eq : k0_pay14 D (hitV D) = nextV (nextV D) := rfl
theorem pay15_eq : k0_pay15 D (hitV D) = hitV (k0_pay14 D (hitV D)) := rfl
theorem pay16_eq : k0_pay16 colsV D (hitV D) = pickV (k0_pay14 D (hitV D)) := rfl
theorem pay17_eq : k0_pay17 D (hitV D) = nextV (nextV (k0_pay14 D (hitV D))) := rfl
theorem pay18_eq : k0_pay18 D (hitV D) = hitV (k0_pay17 D (hitV D)) := rfl
theorem pay19_eq : k0_pay19 colsV D (hitV D) = pickV (k0_pay17 D (hitV D)) := rfl
theorem pay20_eq : k0_pay20 D (hitV D) = nextV (nextV (k0_pay17 D (hitV D))) := rfl

/-- Every row's minimum, one number per row. -/
def minS (D : FVec F S256x2048 .f32) : FVec F S256 .f32 :=
  multiReduction .minimumf [1] S256 D 0x7F800000#32 reduces_S256x2048_S256 (.inl rfl) rfl

theorem pay21_eq : k0_pay21 D (hitV D) = minS (k0_pay20 D (hitV D)) := rfl
theorem pay22_eq : k0_pay22 D (minS D) = hitV D := rfl
theorem pay23_eq : k0_pay23 colsV D (minS D) = pickV D := rfl
theorem pay24_eq : k0_pay24 D (minS D) = nextV (nextV D) := rfl
theorem pay25_eq : k0_pay25 D (minS D) = hitV (k0_pay24 D (minS D)) := rfl
theorem pay26_eq : k0_pay26 colsV D (minS D) = pickV (k0_pay24 D (minS D)) := rfl
theorem pay27_eq : k0_pay27 D (minS D) = nextV (nextV (k0_pay24 D (minS D))) := rfl
theorem pay29_eq : k0_pay29 colsV D (minS D) = pickV (k0_pay27 D (minS D)) := rfl
theorem pay30_eq : k0_pay30 D (minS D) = nextV (k0_pay27 D (minS D)) := rfl
theorem pay31_eq : k0_pay31 D (minS D) = minV (k0_pay30 D (minS D)) := rfl
theorem pay32_eq : k0_pay32 D (minV D) = nextV D := rfl
theorem pay34_eq : k0_pay34 colsV D (minV D) = pickV (k0_pay32 D (minV D)) := rfl
theorem pay35_eq : k0_pay35 D (minV D) = nextV (nextV (k0_pay32 D (minV D))) := rfl
theorem pay37_eq : k0_pay37 colsV D (minV D) = pickV (k0_pay35 D (minV D)) := rfl
theorem pay38_eq : k0_pay38 D (minV D) = nextV (nextV (k0_pay35 D (minV D))) := rfl
theorem pay39_eq : k0_pay39 D (minV D) = hitV (k0_pay38 D (minV D)) := rfl
theorem pay40_eq : k0_pay40 colsV D (minV D) = pickV (k0_pay38 D (minV D)) := rfl
theorem pay41_eq : k0_pay41 D (hitV D) (Scalar.ofBits .f32 0x7F800000#32) = nextV (nextV D) := rfl
theorem pay43_eq : k0_pay43 colsV D (hitV D) (Scalar.ofBits .f32 0x7F800000#32)
    = pickV (k0_pay41 D (hitV D) (Scalar.ofBits .f32 0x7F800000#32)) := rfl
theorem pay44_eq : k0_pay44 D (hitV D) (Scalar.ofBits .f32 0x7F800000#32)
    = nextV (nextV (k0_pay41 D (hitV D) (Scalar.ofBits .f32 0x7F800000#32))) := rfl
theorem pay46_eq : k0_pay46 colsV D (hitV D) (Scalar.ofBits .f32 0x7F800000#32)
    = pickV (k0_pay44 D (hitV D) (Scalar.ofBits .f32 0x7F800000#32)) := rfl
theorem pay47_eq : k0_pay47 D (hitV D) (Scalar.ofBits .f32 0x7F800000#32)
    = nextV (nextV (k0_pay44 D (hitV D) (Scalar.ofBits .f32 0x7F800000#32))) := rfl
theorem pay48_eq : k0_pay48 D (hitV D) (Scalar.ofBits .f32 0x7F800000#32)
    = hitV (k0_pay47 D (hitV D) (Scalar.ofBits .f32 0x7F800000#32)) := rfl
theorem pay49_eq : k0_pay49 colsV (hitV D) 2048#32 = pickV D := rfl
theorem pay50_eq : k0_pay50 D (hitV D) = nextV (nextV D) := rfl
theorem pay52_eq : k0_pay52 colsV D (hitV D) = pickV (k0_pay50 D (hitV D)) := rfl
theorem pay53_eq : k0_pay53 D (hitV D) = nextV (nextV (k0_pay50 D (hitV D))) := rfl
theorem pay55_eq : k0_pay55 colsV D (hitV D) = pickV (k0_pay53 D (hitV D)) := rfl
theorem pay56_eq : k0_pay56 D (hitV D) = nextV (nextV (k0_pay53 D (hitV D))) := rfl
theorem pay1_eq : k0_pay1 colsV D = aimV D := rfl

end Printed

/-! ## The block's sixteen columns -/

/-- Sixteen columns side by side. -/
def stackV (f : Fin 16 → IVec S256x1 32) : IVec S1x256x16 32 :=
  shapeCast S1x256x16 (concatenate S256x16 1 (List.ofFn fun k : Fin 16 => (⟨S256x1, f k⟩ : (s : Shape) × IVec s 32))
    concatenates_S256x1_S256x1_S256x1_S256x1_S256x1_S256x1_S256x1_S256x1_S256x1_S256x1_S256x1_S256x1_S256x1_S256x1_S256x1_S256x1_S256x16_d1)
    shapeCasts_S256x16_S1x256x16

theorem stackV_apply (f : Fin 16 → IVec S256x1 32) (p : Fin 256) (k : Fin 16) :
    stackV f (ix3 0 p k) = f k (ix2 p 0) := by
  pointwise [stackV]

/-- The list of sixteen entries of a function is the list written out. -/
theorem ofFn_sixteen {α : Type} (f : Fin 16 → α) : List.ofFn f = [f 0, f 1, f 2, f 3, f 4, f 5, f 6, f 7, f 8, f 9, f 10, f 11,
    f 12, f 13, f 14, f 15] := rfl

/-- Concatenating equal lists of parts gives equal arrays. -/
theorem concatenate_congr {α : Type} (t : Shape) (a : Fin t.rank) (xs ys : List ((s : Shape) × (s.Idx → α)))
    (h : Shape.Concatenates (xs.map (·.1)) t a) (h' : Shape.Concatenates (ys.map (·.1)) t a) (e : xs = ys) :
    concatenate t a xs h = concatenate t a ys h' := by
  subst e
  rfl

theorem pay2_eq (f : Fin 16 → IVec S256x1 32) (D : FVec F S256x2048 .f32) (hf : f 15 = pickV D) :
    k0_pay2 (f 0) (f 1) (f 2) (f 3) (f 4) (f 5) (f 6) (f 7) (f 8) (f 9) (f 10) (f 11) (f 12) (f 13) (f 14) (aimV D)
      = stackV f := by
  unfold stackV
  refine Eq.trans ?_ (congrArg (fun x => shapeCast S1x256x16 x shapeCasts_S256x16_S1x256x16)
    (concatenate_congr S256x16 1 _ _
      (by exact concatenates_S256x1_S256x1_S256x1_S256x1_S256x1_S256x1_S256x1_S256x1_S256x1_S256x1_S256x1_S256x1_S256x1_S256x1_S256x1_S256x1_S256x16_d1)
      _ (ofFn_sixteen _).symm))
  rw [hf]
  rfl

/-! ## A round, read at an entry -/

section Read

variable (D : FVec Ideal S256x2048 .f32) (p : Fin 256) (j : Fin 2048)

/-- Row `p` of a block of distances. -/
def rowOf (D : FVec Ideal S256x2048 .f32) (p : Fin 256) : Fin 2048 → EReal := fun j => D (ix2 p j)

omit D p j in
/-- A select on a decided condition is the conditional. -/
theorem select_ofBool {α : Type} (P : Prop) [Decidable P] (a b : α) :
    Scalar.select (BitVec.ofBool (decide P)) a b = if P then a else b := by
  by_cases h : P <;> simp [Scalar.select, h]

theorem minV_apply : minV D (ix2 p j) = least (rowOf D p) := by
  pointwise [minV]
  rw [ofBits_top]
  rfl

theorem hitV_apply : hitV D (ix2 p j) = BitVec.ofBool (decide (rowOf D p j = least (rowOf D p))) := by
  show Ideal.cmp .oeq (D (ix2 p j)) (minV D (ix2 p j)) = _
  rw [minV_apply]
  rfl

theorem nextV_apply : rowOf (nextV D) p = strike (rowOf D p) := by
  funext j
  show Scalar.select (hitV D (ix2 p j)) (Ideal.ofBits .f32 0x7F800000#32) (rowOf D p j) = _
  rw [hitV_apply, ofBits_top, select_ofBool]
  rfl

theorem aimV_apply : aimV D (ix2 p j) = offer (rowOf D p) j := by
  have hc : colsV (ix2 p j) = BitVec.ofNat 32 j.val := by pointwise [colsV]
  show Scalar.select (hitV D (ix2 p j)) (colsV (ix2 p j)) 2048#32 = _
  rw [hitV_apply, hc, select_ofBool]
  rfl

theorem pickV_apply : pickV D (ix2 p 0) = first (rowOf D p) := by
  pointwise [pickV, leastOfV]
  exact congrArg (fun f => Finset.fold IntOp.minsi 2147483647#32 f Finset.univ) (funext fun j => aimV_apply D p j)

end Read

end Cert.Knn

end
-- ==== Proof.BlockRounds.lean ====
/-
  WHAT ONE BLOCK OF THE KERNEL WRITES. From its four input blocks the body computes the block's distances (`distV`), and
  its output block is the sixteen picks of the rounds `0, 2, …, 30` over them (`out_eq`): entry `(p, k)` is the first
  column that round `2 k` finds in row `p` of the distances (`out_apply`).
-/
module

public import proofs.«01_k».proof.Proof.RoundVectors

@[expose] public section

noncomputable section

namespace Cert.Knn

open Idealize.ShloMosaic Cert.KernelIdeal Cert.KernelIdeal.Gen

variable {F : FTy → Type} [FloatOps F]
variable (x0 : Vec F S1x256x256 .f32) (x1 : Vec F S1x256x2048 .f32) (x2 : Vec F S1x256x1 .f32) (x3 : Vec F S1x1x2048 .f32)

/-- The distances of one block of rows to all columns. -/
def distV : FVec F S256x2048 .f32 :=
  k0_pay7 (k0_pay57 x0 x1 x2 x3) (k0_pay58 x0 x1 x2 x3) (k0_pay59 x0 x1 x2 x3) (k0_pay60 x0 x1 x2 x3)

theorem pay61_eq : k0_pay61 x0 x1 x2 x3 = colsV := rfl
theorem pay62_eq : k0_pay62 x0 x1 x2 x3 = roundV (distV x0 x1 x2 x3) 2 := by
  unfold k0_pay62; rw [pay10_eq]; rfl
theorem pay63_eq : k0_pay63 x0 x1 x2 x3 = hitV (roundV (distV x0 x1 x2 x3) 2) := by
  unfold k0_pay63; rw [pay11_eq, pay10_eq]; rfl
theorem pay64_eq : k0_pay64 x0 x1 x2 x3 = roundV (distV x0 x1 x2 x3) 8 := by
  unfold k0_pay64; rw [pay62_eq, pay63_eq, pay20_eq, pay17_eq, pay14_eq]; rfl
theorem pay65_eq : k0_pay65 x0 x1 x2 x3 = minS (roundV (distV x0 x1 x2 x3) 8) := by
  unfold k0_pay65; rw [pay62_eq, pay63_eq, pay21_eq, pay20_eq, pay17_eq, pay14_eq]; rfl
theorem pay66_eq : k0_pay66 x0 x1 x2 x3 = roundV (distV x0 x1 x2 x3) 13 := by
  unfold k0_pay66; rw [pay64_eq, pay65_eq, pay30_eq, pay27_eq, pay24_eq]; rfl
theorem pay67_eq : k0_pay67 x0 x1 x2 x3 = minV (roundV (distV x0 x1 x2 x3) 13) := by
  unfold k0_pay67; rw [pay64_eq, pay65_eq, pay31_eq, pay30_eq, pay27_eq, pay24_eq]; rfl
theorem pay68_eq : k0_pay68 x0 x1 x2 x3 = roundV (distV x0 x1 x2 x3) 18 := by
  unfold k0_pay68; rw [pay66_eq, pay67_eq, pay38_eq, pay35_eq, pay32_eq]; rfl
theorem pay69_eq : k0_pay69 x0 x1 x2 x3 = hitV (roundV (distV x0 x1 x2 x3) 18) := by
  unfold k0_pay69; rw [pay66_eq, pay67_eq, pay39_eq, pay38_eq, pay35_eq, pay32_eq]; rfl
theorem pay70_eq : k0_pay70 x0 x1 x2 x3 = roundV (distV x0 x1 x2 x3) 24 := by
  unfold k0_pay70; rw [pay68_eq, pay69_eq, pay47_eq, pay44_eq, pay41_eq]; rfl
theorem pay71_eq : k0_pay71 x0 x1 x2 x3 = hitV (roundV (distV x0 x1 x2 x3) 24) := by
  unfold k0_pay71; rw [pay68_eq, pay69_eq, pay48_eq, pay47_eq, pay44_eq, pay41_eq]; rfl

/-- The pick of round `2 k` over the block's distances. -/
def picked (k : Fin 16) : IVec S256x1 32 := pickV (roundV (distV x0 x1 x2 x3) (2 * k.val))

/-- The output block: the picks of the even rounds side by side. -/
theorem out_eq : out0_4 x0 x1 x2 x3 = stackV (picked x0 x1 x2 x3) := by
  unfold out0_4
  rw [View.canon_unit_zero (by decide)]
  have h0 : k0_pay9 (k0_pay57 x0 x1 x2 x3) (k0_pay58 x0 x1 x2 x3) (k0_pay59 x0 x1 x2 x3) (k0_pay60 x0 x1 x2 x3)
      = picked x0 x1 x2 x3 0 := by rw [pay9_eq]; rfl
  have h1 : k0_pay13 (k0_pay12 (k0_pay57 x0 x1 x2 x3) (k0_pay58 x0 x1 x2 x3) (k0_pay59 x0 x1 x2 x3) (k0_pay60 x0 x1 x2 x3))
      = picked x0 x1 x2 x3 1 := by rw [pay13_eq, pay10_eq]; rfl
  rw [h0, h1, pay61_eq, pay62_eq, pay63_eq, pay64_eq, pay65_eq, pay66_eq, pay67_eq, pay68_eq, pay69_eq, pay70_eq, pay71_eq]
  rw [pay16_eq, pay19_eq, pay17_eq, pay14_eq, pay23_eq, pay26_eq, pay29_eq, pay27_eq, pay24_eq, pay34_eq, pay37_eq, pay40_eq,
    pay38_eq, pay35_eq, pay32_eq, pay43_eq, pay46_eq, pay44_eq, pay41_eq, pay49_eq, pay52_eq, pay55_eq, pay56_eq, pay53_eq,
    pay50_eq, pay1_eq]
  exact pay2_eq (picked x0 x1 x2 x3) (roundV (distV x0 x1 x2 x3) 30) rfl

/-! ## An entry of the output block -/

/-- Row `p` of the block that round `r` meets is what `r` rounds leave of row `p` of the distances. -/
theorem rowOf_roundV (D : FVec Ideal S256x2048 .f32) (p : Fin 256) (r : ℕ) : rowOf (roundV D r) p = left (rowOf D p) r := by
  induction r with
  | zero => rfl
  | succ r ih =>
    show rowOf (nextV (roundV D r)) p = strike (left (rowOf D p) r)
    rw [nextV_apply, ih]

/-- Entry `(p, k)` of the output block is the first column that round `2 k` finds in row `p` of the distances. -/
theorem out_apply (x0 : Vec Ideal S1x256x256 .f32) (x1 : Vec Ideal S1x256x2048 .f32) (x2 : Vec Ideal S1x256x1 .f32)
    (x3 : Vec Ideal S1x1x2048 .f32) (p : Fin 256) (k : Fin 16) :
    out0_4 x0 x1 x2 x3 (ix3 0 p k) = first (left (rowOf (distV x0 x1 x2 x3) p) (2 * k.val)) := by
  rw [out_eq, stackV_apply]
  show pickV (roundV (distV x0 x1 x2 x3) (2 * k.val)) (ix2 p 0) = _
  rw [pickV_apply, rowOf_roundV]

end Cert.Knn

end
-- ==== Proof.BlockDistance.lean ====
/-
  THE DISTANCES OF ONE BLOCK. Entry `(p, j)` of a block's distances is the distance of the block's point `p` to point `j` of
  the batch: the row's features come from the block of feature rows (`x0`), the column's from the batch's feature columns
  (`x1`), the gaze numbers from the two gaze blocks (`x2`, `x3`).
-/
module

public import proofs.«01_k».proof.Proof.BlockRounds

@[expose] public section

noncomputable section

namespace Cert.Knn

open Idealize.ShloMosaic Cert.KernelIdeal Cert.KernelIdeal.Gen

variable (x0 : Vec Ideal S1x256x256 .f32) (x1 : Vec Ideal S1x256x2048 .f32) (x2 : Vec Ideal S1x256x1 .f32) (x3 : Vec Ideal S1x1x2048 .f32)

/-- An entry of the block's distances is the distance of its two points. -/
theorem distV_apply (p : Fin 256) (j : Fin 2048) : distV x0 x1 x2 x3 (ix2 p j)
    = dist (fun j => x3 (ix3 0 0 j)) (fun k => x0 (ix3 0 p k)) (fun k => x1 (ix3 0 k j)) (x2 (ix3 0 p 0)) (x3 (ix3 0 0 j)) := by
  have e57 : k0_pay57 x0 x1 x2 x3 = k0_pay3 x2 := by
    unfold k0_pay57; rw [View.ld_unit_zero (by decide)]
  have e58 : k0_pay58 x0 x1 x2 x3 = k0_pay4 x3 := by
    unfold k0_pay58; rw [View.ld_unit_zero (by decide)]
  have e59 : k0_pay59 x0 x1 x2 x3 = k0_pay5 x0 x1 := by
    unfold k0_pay59; rw [View.ld_unit_zero (by decide), View.ld_unit_zero (by decide)]
  have e60 : k0_pay60 x0 x1 x2 x3 = k0_pay6 x3 := by
    unfold k0_pay60; rw [View.ld_unit_zero (by decide)]
  unfold distV
  rw [e57, e58, e59, e60]
  pointwise [k0_pay7, k0_pay3, k0_pay4, k0_pay5, k0_pay6, dot_S256x256_S256x2048_S256x2048_1_0_0_1_n_n]
  rw [fold_one_pair, fold_one_pair, ofBits_top, ofBits_bot]
  rfl

end Cert.Knn

end
-- ==== Proof.Points.lean ====
/-
  THE POINTS OF THE PROBLEM. A batch of 2048 points is given by a feature array (batch, feature, point) and a gaze array
  (batch, point). `distRow x g b i` is the row of distances of point `i` of batch `b` to all points of its batch.
-/
module

public import proofs.«01_k».proof.Proof.Distance

@[expose] public section

noncomputable section

namespace Cert.Knn

open Idealize.ShloMosaic

/-- The features of point `i` of batch `b`. -/
def feat (x : FVec Ideal ⟨4, ![4, 256, 2048, 1]⟩ .f32) (b : Fin 4) (i : Fin 2048) : Fin 256 → EReal := fun k => x (ix4 b k i 0)

/-- The gaze numbers of batch `b`. -/
def gaze (g : FVec Ideal ⟨4, ![4, 1, 2048, 1]⟩ .f32) (b : Fin 4) : Fin 2048 → EReal := fun i => g (ix4 b 0 i 0)

/-- The distances of point `i` of batch `b` to the points of its batch. -/
def distRow (x : FVec Ideal ⟨4, ![4, 256, 2048, 1]⟩ .f32) (g : FVec Ideal ⟨4, ![4, 1, 2048, 1]⟩ .f32) (b : Fin 4) (i : Fin 2048) :
    Fin 2048 → EReal :=
  fun j => dist (gaze g b) (feat x b i) (feat x b j) (gaze g b i) (gaze g b j)

end Cert.Knn

end
-- ==== Proof.KernelArray.lean ====
/-
  WHAT THE KERNEL'S ARRAY HOLDS. The grid has a point for each batch `b` and each group of 256 rows. At a point the input
  blocks are the group's feature rows, the batch's feature columns, the group's gaze numbers and the batch's gaze numbers
  (`blk0_read` to `blk3_read`), so a row of the block's distances is the row of distances of that point of the batch
  (`row_read`). The sixteen numbers per row that the point writes back are therefore the picks of that row, and the blocks
  cover the array (`array_eq`).
-/
module

public import proofs.«01_k».proof.Proof.BlockDistance
public import proofs.«01_k».proof.Proof.Points
public import Idealize.ShloMosaic.Lib.Pipeline.ValueKit
public import Idealize.ShloMosaic.Lib.Claim

@[expose] public section

noncomputable section

namespace Cert.Knn

open Idealize.ShloMosaic Idealize.ShloMosaic.TcCoe Idealize.SL.Sem Cert.KernelIdeal Cert.KernelIdeal.Gen

variable (m : (ℓ : Loc nD τ sig) → Buf (Elt Ideal) ℓ) (c : Dev nD)

/-- The feature array as launched. -/
abbrev argX : FVec Ideal S4x256x2048x1 .f32 := m ((c : Thread nD τ).loc main_arg0)
/-- The gaze array as launched. -/
abbrev argG : FVec Ideal S4x1x2048x1 .f32 := m ((c : Thread nD τ).loc main_arg1)

/-- The batch of a grid point. -/
def batchOf (t : Fin cfg0.N) : Fin 4 := grid0.coords t 0

/-- Row `p` of a grid point's group, as a row of the batch. -/
def rowAt (t : Fin cfg0.N) (p : Fin 256) : Fin 2048 := ⟨(grid0.coords t 1).val * 256 + p.val, by
  have h : (grid0.coords t 1).val < 8 := (grid0.coords t 1).isLt
  omega⟩

theorem idx0 : ∀ t : Fin cfg0.N, win0_0.index t = ![(grid0.coords t 0).val, (grid0.coords t 1).val, 0] :=
  (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, (grid0.coords t 1).val, 0] :=
  (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![(grid0.coords t 0).val, (grid0.coords t 1).val, 0] :=
  (by decide +kernel : ∀ t : Fin grid0.N, _)

/-! ## The arrays that the windows read, from the arguments -/

/-- The feature columns: the feature array without its last axis. -/
theorem V_cols : V m c main_v0 = shapeCast S4x256x2048 (argX m c) shapeCasts_S4x256x2048x1_S4x256x2048 := by
  unfold V V0
  simp only [List.flatten_cons, List.flatten_nil, List.append_nil]
  after_results
  rfl

/-- The feature rows: the same, transposed. -/
theorem V_rows : V m c main_v1 = transpose S4x2048x256 [0, 2, 1]
    (shapeCast S4x256x2048 (argX m c) shapeCasts_S4x256x2048x1_S4x256x2048) transposes_S4x256x2048_S4x2048x256_0_2_1 := by
  unfold V V0
  simp only [List.flatten_cons, List.flatten_nil, List.append_nil]
  after_results
  rfl

/-- The gaze numbers of the rows. -/
theorem V_gazeRows : V m c main_v3 = broadcastInDim S4x2048x1 ![0, 1] bcast_S4x2048_S4x2048x1_0_1
    (shapeCast S4x2048 (argG m c) shapeCasts_S4x1x2048x1_S4x2048) := by
  unfold V V0
  simp only [List.flatten_cons, List.flatten_nil, List.append_nil]
  after_results
  rfl

/-- The gaze numbers of the columns. -/
theorem V_gazeCols : V m c main_v4 = broadcastInDim S4x1x2048 ![0, 2] bcast_S4x2048_S4x1x2048_0_2
    (shapeCast S4x2048 (argG m c) shapeCasts_S4x1x2048x1_S4x2048) := by
  unfold V V0
  simp only [List.flatten_cons, List.flatten_nil, List.append_nil]
  after_results
  rfl

/-! ## The input blocks of a grid point -/

/-- Row `p` of the block of feature rows holds the features of row `p` of the group. -/
theorem blk0_read (t : Fin cfg0.N) (p k : Fin 256) :
    (iblk m c 0 t : Vec Ideal S1x256x256 .f32) (ix3 0 p k) = feat (argX m c) (batchOf t) (rowAt t p) k := by
  have e : ((cfg0.win 0).blk t).view.emb (ix3 0 p k : S1x256x256.Idx) = (ix3 (batchOf t) (rowAt t p) k : S4x2048x256.Idx) := by
    blk_ext [idx0, batchOf, rowAt]
  show V m c main_v1 (((cfg0.win 0).blk t).view.emb (ix3 0 p k : S1x256x256.Idx)) = _
  rw [e, V_rows]
  pointwise
  rfl

/-- Column `j` of the block of feature columns holds the features of point `j` of the batch. -/
theorem blk1_read (t : Fin cfg0.N) (k : Fin 256) (j : Fin 2048) :
    (iblk m c 1 t : Vec Ideal S1x256x2048 .f32) (ix3 0 k j) = feat (argX m c) (batchOf t) j k := by
  have e : ((cfg0.win 1).blk t).view.emb (ix3 0 k j : S1x256x2048.Idx) = (ix3 (batchOf t) k j : S4x256x2048.Idx) := by
    blk_ext [idx1, batchOf]
  show V m c main_v0 (((cfg0.win 1).blk t).view.emb (ix3 0 k j : S1x256x2048.Idx)) = _
  rw [e, V_cols]
  pointwise
  rfl

/-- Entry `p` of the rows' gaze block is the gaze number of row `p` of the group. -/
theorem blk2_read (t : Fin cfg0.N) (p : Fin 256) :
    (iblk m c 2 t : Vec Ideal S1x256x1 .f32) (ix3 0 p 0) = gaze (argG m c) (batchOf t) (rowAt t p) := by
  have e : ((cfg0.win 2).blk t).view.emb (ix3 0 p 0 : S1x256x1.Idx) = (ix3 (batchOf t) (rowAt t p) 0 : S4x2048x1.Idx) := by
    blk_ext [idx2, batchOf, rowAt]
  show V m c main_v3 (((cfg0.win 2).blk t).view.emb (ix3 0 p 0 : S1x256x1.Idx)) = _
  rw [e, V_gazeRows]
  pointwise
  rfl

/-- Entry `j` of the columns' gaze block is the gaze number of point `j` of the batch. -/
theorem blk3_read (t : Fin cfg0.N) (j : Fin 2048) :
    (iblk m c 3 t : Vec Ideal S1x1x2048 .f32) (ix3 0 0 j) = gaze (argG m c) (batchOf t) j := by
  have e : ((cfg0.win 3).blk t).view.emb (ix3 0 0 j : S1x1x2048.Idx) = (ix3 (batchOf t) 0 j : S4x1x2048.Idx) := by
    blk_ext [idx3, batchOf]
  show V m c main_v4 (((cfg0.win 3).blk t).view.emb (ix3 0 0 j : S1x1x2048.Idx)) = _
  rw [e, V_gazeCols]
  pointwise
  rfl

/-! ## The array -/

/-- The distances of a grid point's block. -/
def blockDist (t : Fin cfg0.N) : FVec Ideal S256x2048 .f32 :=
  distV (iblk m c 0 t : Vec Ideal S1x256x256 .f32) (iblk m c 1 t : Vec Ideal S1x256x2048 .f32)
    (iblk m c 2 t : Vec Ideal S1x256x1 .f32) (iblk m c 3 t : Vec Ideal S1x1x2048 .f32)

/-- A row of a block's distances is the row of distances of its point. -/
theorem row_read (t : Fin cfg0.N) (p : Fin 256) :
    rowOf (blockDist m c t) p = distRow (argX m c) (argG m c) (batchOf t) (rowAt t p) := by
  funext j
  show distV _ _ _ _ (ix2 p j) = _
  rw [distV_apply]
  simp only [blk0_read, blk1_read, blk2_read, blk3_read]
  rfl

/-- The array of picks: entry `(b, i, k)` is the first column that round `2 k` finds in the distances of point `i`. -/
def picksOf (x : FVec Ideal S4x256x2048x1 .f32) (g : FVec Ideal S4x1x2048x1 .f32) : IVec S4x2048x16 32 := fun y =>
  first (left (distRow x g (y 0) (y 1)) (2 * (y 2).val))

/-- The kernel's array after the run is the array of picks. -/
theorem array_eq : (dats m 0 c).arrAt 4 cfg0.N = picksOf (argX m c) (argG m c) := by
  refine (dats m 0 c).arrAt_eq_of_covers 4 _ (by decide +kernel) fun t hf y => ?_
  blk_simp
  rw [after0_4]
  obtain ⟨z, p, k, rfl⟩ : ∃ (z : Fin 1) (p : Fin 256) (k : Fin 16), y = (ix3 z p k : S1x256x16.Idx) := ⟨y 0, y 1, y 2, eq_ix3 y⟩
  obtain rfl : z = 0 := Subsingleton.elim _ _
  have e : ((cfg0.win 4).blk t).view.emb (ix3 0 p k : S1x256x16.Idx) = (ix3 (batchOf t) (rowAt t p) k : S4x2048x16.Idx) := by
    blk_ext [idx4, batchOf, rowAt]
  refine (out_apply _ _ _ _ p k).trans ?_
  refine (congrArg (fun d => first (left d (2 * k.val))) (row_read m c t p)).trans ?_
  exact (congrArg (picksOf (argX m c) (argG m c)) e).symm

end Cert.Knn

end
-- ==== Proof.KernelResult.lean ====
/-
  WHAT THE KERNEL'S RESULT HOLDS. After the grid the program stacks two arrays: the picks, and beside each pick the number of
  the row it belongs to. So the result's first half is the array of picks (`result_picks`) and its second half is the row's
  own index (`result_rows`); `kernel_run` states the run.
-/
module

public import proofs.«01_k».proof.Proof.KernelArray

@[expose] public section

noncomputable section

namespace Cert.Knn

open Idealize.ShloMosaic Idealize.ShloMosaic.TcCoe Idealize.SL.Sem Cert.KernelIdeal Cert.KernelIdeal.Gen

/-- The row's own index beside each of its sixteen picks. -/
def rowNumbers : IVec S4x2048x16 32 :=
  broadcastInDim S4x2048x16 ![0, 1, 2] bcast_S1x2048x1_S4x2048x16_0_1_2
    (broadcastInDim S1x2048x1 ![1] bcast_S2048_S1x2048x1_1 (iotaInDim S2048 32 0))

/-- The picks over the row numbers. -/
def kernelResult (x : FVec Ideal S4x256x2048x1 .f32) (g : FVec Ideal S4x1x2048x1 .f32) : IVec S2x4x2048x16 32 :=
  concatenate S2x4x2048x16 0
    [⟨S1x4x2048x16, broadcastInDim S1x4x2048x16 ![1, 2, 3] bcast_S4x2048x16_S1x4x2048x16_1_2_3 (picksOf x g)⟩,
      ⟨S1x4x2048x16, broadcastInDim S1x4x2048x16 ![1, 2, 3] bcast_S4x2048x16_S1x4x2048x16_1_2_3 rowNumbers⟩]
    concatenates_S1x4x2048x16_S1x4x2048x16_S2x4x2048x16_d0

/-- The first half of the result is the array of picks. -/
theorem result_picks (x : FVec Ideal S4x256x2048x1 .f32) (g : FVec Ideal S4x1x2048x1 .f32) (b : Fin 4) (i : Fin 2048) (k : Fin 16) :
    kernelResult x g (ix4 0 b i k) = first (left (distRow x g b i) (2 * k.val)) := by
  unfold kernelResult
  pointwise
  rfl

/-- The second half of the result is the row's own index. -/
theorem result_rows (x : FVec Ideal S4x256x2048x1 .f32) (g : FVec Ideal S4x1x2048x1 .f32) (b : Fin 4) (i : Fin 2048) (k : Fin 16) :
    kernelResult x g (ix4 1 b i k) = BitVec.ofNat 32 i.val := by
  unfold kernelResult rowNumbers
  pointwise
  try rfl

variable (m : (ℓ : Loc nD τ sig) → Buf (Elt Ideal) ℓ) (ρ : Dev nD → PrngReg)

/-- The host lines after the grid leave the picks over the row numbers. -/
theorem tail_eq (c : Dev nD) :
    Pipeline.afterTail₀ cfgs (dats m) 0 (V0 m) [hostOps1] c main_v11 = kernelResult (argX m c) (argG m c) := by
  have h := (Pipeline.withArrays_arr cfg0.spec (by decide) c (V0 m c) (fun w => (dats m 0 c).arrAt w cfg0.N) 4).trans (array_eq m c)
  unfold Pipeline.afterTail₀
  simp only [List.flatten_cons, List.flatten_nil, List.append_nil]
  after_results
  unfold kernelResult
  rw [← h]
  rfl

/-- The kernel ends with the picks over the row numbers, its arguments unchanged. -/
theorem kernel_run : θ_run defs (onTc (τ := τ) (main (F := Ideal))) ⟨m, fun _ => 0, ρ⟩ fun r => ∀ c : Dev nD,
    r.2.mem ((c.tc : Thread nD τ).loc main_v11) = kernelResult (argX m c) (argG m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine θ_run_mono (run_main m ρ) fun r h c => ⟨?_, ?_, ?_⟩
  · exact ((h c).2 main_v11 (Pipeline.mem_restRefs_of main_v11 (by decide) (by decide))).trans (tail_eq m c)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Knn

end
-- ==== Proof.ReferenceDistance.lean ====
/-
  THE DISTANCES OF THE REFERENCE. Entry `(b, i, j)` of the reference's distances is the distance of point `i` to point `j` of
  batch `b`. The reference contracts the gaze numbers over an axis of one, sums their squares over it and multiplies the gaze
  gap by one; none of the three changes the value.
-/
module

public import proofs.«01_k».proof.Proof.Gen.ReferenceIdeal.Read
public import proofs.«01_k».proof.Proof.Points

@[expose] public section

noncomputable section

namespace Cert.Knn

open Idealize.ShloMosaic Cert.ReferenceIdeal Cert.ReferenceIdeal.Gen Cert.ReferenceIdeal.Read

theorem val_main_v8_read (x : FVec Ideal S4x256x2048x1 .f32) (b : Fin 4) (i : Fin 2048) (k : Fin 256) :
    val_main_v8 (F := Ideal) x (ix3 b i k) = unit (feat x b i) k := by
  pointwise [val_main_v8, val_main_v7, val_main_v6, val_main_v5, val_main_v4, val_main_v3, val_main_v2, val_main_v1, val_main_v0,
    val_main_cst, val_main_cst_0, val_main_call0_v0, val_main_call0_v1]
  rfl

theorem val_main_v22_read (x : FVec Ideal S4x256x2048x1 .f32) (b : Fin 4) (i j : Fin 2048) :
    val_main_v22 (F := Ideal) x (ix3 b i j) = gap (feat x b i) (feat x b j) := by
  pointwise [val_main_v22, val_main_v21, val_main_v20, val_main_v19, val_main_v18, val_main_v17, val_main_v16, val_main_v15,
    val_main_v14, val_main_v13, val_main_v12, val_main_v11, val_main_cst_1, val_main_cst_2,
    dot_S4x2048x256_S4x256x2048_S4x2048x2048_2_1_1_2_0_0, val_main_v8_read]
  rfl

theorem val_main_v10_read (g : FVec Ideal S4x1x2048x1 .f32) (b : Fin 4) (i : Fin 2048) (z : Fin 1) :
    val_main_v10 (F := Ideal) g (ix3 b i z) = gaze g b i := by
  obtain rfl : z = 0 := Subsingleton.elim _ _
  pointwise [val_main_v10, val_main_v9]
  rfl

theorem val_main_v36_read (g : FVec Ideal S4x1x2048x1 .f32) (b : Fin 4) (i j : Fin 2048) :
    val_main_v36 (F := Ideal) g (ix3 b i j) = gazeGap (gaze g b i) (gaze g b j) := by
  pointwise [val_main_v36, val_main_v35, val_main_v34, val_main_v33, val_main_v32, val_main_v31, val_main_v30, val_main_v29,
    val_main_v28, val_main_v27, val_main_v26, val_main_v25, val_main_v24, val_main_v23,
    val_main_cst_3, val_main_cst_4, val_main_cst_5, dot_S4x2048x1_S4x1x2048_S4x2048x2048_2_1_1_2_0_0, val_main_v10_read]
  simp only [Finset.univ_unique, Finset.sum_singleton]
  rfl

theorem val_main_v49_read (g : FVec Ideal S4x1x2048x1 .f32) (b : Fin 4) (i j : Fin 2048) :
    val_main_v49 (F := Ideal) g (ix3 b i j) = weight (gaze g b) (gaze g b i) := by
  pointwise [val_main_v49, val_main_v48, val_main_v47, val_main_v46, val_main_v45, val_main_v44, val_main_v43, val_main_v42,
    val_main_v41, val_main_v40, val_main_v39, val_main_v38, val_main_v37,
    val_main_cst_6, val_main_cst_7, val_main_v10_read]
  rw [ofBits_top, ofBits_bot]
  rfl

/-- An entry of the reference's distances is the distance of its two points. -/
theorem val_main_v51_read (x : FVec Ideal S4x256x2048x1 .f32) (g : FVec Ideal S4x1x2048x1 .f32) (b : Fin 4) (i j : Fin 2048) :
    val_main_v51 (F := Ideal) x g (ix3 b i j) = distRow x g b i j := by
  show val_main_v22 (F := Ideal) x (ix3 b i j) + val_main_v36 (F := Ideal) g (ix3 b i j) * val_main_v49 (F := Ideal) g (ix3 b i j) = _
  rw [val_main_v22_read, val_main_v36_read, val_main_v49_read]
  rfl

/-- What the reference sorts is the negated distance. -/
theorem val_main_v52_read (x : FVec Ideal S4x256x2048x1 .f32) (g : FVec Ideal S4x1x2048x1 .f32) (b : Fin 4) (i j : Fin 2048) :
    val_main_v52 (F := Ideal) x g (ix3 b i j) = -distRow x g b i j := by
  rw [← val_main_v51_read]
  rfl

end Cert.Knn

end
-- ==== Proof.TopK.lean ====
/-
  SORTING A ROW OF DISTANCES. The reference and the mask both take the greatest entries of the negated distances, in order. Of
  a row that is the stable order of the distances themselves, nearest first (`nearest`): entry `k` of the values is the
  negated distance at rank `k` (`topK_value`) and entry `k` of the indices is the column at rank `k` (`topK_index`).
-/
module

public import Idealize.ShloMosaic.Lib.SortFacts
public import Idealize.ShloMosaic.Lib.Pipeline.Value
public import Idealize.ShloMosaic.Lib.Pointwise
public import Idealize.ShloMosaic.PureOps.Ideal.Laws

@[expose] public section

noncomputable section

namespace Cert.Knn

open Idealize.ShloMosaic

/-- The columns of a row by distance, nearest first, equal distances in the order of the columns. -/
def nearest (d : Fin 2048 → EReal) : Fin 2048 → Fin 2048 := sortedFrom fun k k' => decide (d k < d k')

/-- The shape of the distances. -/
abbrev Table : Shape := ⟨3, ![4, 2048, 2048]⟩
/-- The shape of the first `K` entries of every row. -/
abbrev Front (K : ℕ) : Shape := ⟨3, ![4, 2048, K]⟩

/-- One negated distance exceeds another exactly when the distance is the smaller one. -/
theorem before_neg (a b : EReal) : (FloatOps.cmpfTotal (F := Ideal) (φ := .f32) .gt (-a : EReal) (-b : EReal) == 1#1) = decide (a < b) := by
  rw [Ideal.cmpfTotal_def]
  have e : (Ideal.cmp CmpDirection.gt.ordered (-a) (-b)) = BitVec.ofBool (decide (-b < -a)) := rfl
  rw [e]
  by_cases h : a < b
  · rw [decide_eq_true (EReal.neg_lt_neg_iff.mpr h), decide_eq_true h]; rfl
  · rw [decide_eq_false (fun hc => h (EReal.neg_lt_neg_iff.mp hc)), decide_eq_false h]; rfl

/-- Moving along the last axis changes the column. -/
theorem along_eq (b : Fin 4) (i z q : Fin 2048) : Shape.Idx.along (s := Table) (ix3 b i z) 2 q = ix3 b i q := by
  funext a
  fin_cases a <;> rfl

/-- The first result of a sort of two arrays, at an index. -/
theorem sort2_first_along {α β : Type} (s : Shape) (a : ℕ) (ha : a < s.rank) (cmp : α × β → α × β → BitVec 1) (x : s.Idx → α)
    (y : s.Idx → β) (j : s.Idx) : (Host.sort2 s a cmp x y).1 j = x (j.along ⟨a, ha⟩ (sortedFrom (fun k k' =>
      cmp (x (j.along ⟨a, ha⟩ k), y (j.along ⟨a, ha⟩ k)) (x (j.along ⟨a, ha⟩ k'), y (j.along ⟨a, ha⟩ k')) == 1#1) (j ⟨a, ha⟩))) := by
  unfold Host.sort2
  rw [dif_pos ha]

/-- The second result of a sort of two arrays, at an index. -/
theorem sort2_second_along {α β : Type} (s : Shape) (a : ℕ) (ha : a < s.rank) (cmp : α × β → α × β → BitVec 1) (x : s.Idx → α)
    (y : s.Idx → β) (j : s.Idx) : (Host.sort2 s a cmp x y).2 j = y (j.along ⟨a, ha⟩ (sortedFrom (fun k k' =>
      cmp (x (j.along ⟨a, ha⟩ k), y (j.along ⟨a, ha⟩ k)) (x (j.along ⟨a, ha⟩ k'), y (j.along ⟨a, ha⟩ k')) == 1#1) (j ⟨a, ha⟩))) := by
  unfold Host.sort2
  rw [dif_pos ha]

/-- The first result of a sort of two arrays along the last axis of the distances' shape. -/
theorem sort2_first {α β : Type} (cmp : α × β → α × β → BitVec 1) (x : Table.Idx → α) (y : Table.Idx → β) (b : Fin 4) (i z : Fin 2048) :
    (Host.sort2 Table 2 cmp x y).1 (ix3 b i z) = x (ix3 b i (sortedFrom (fun k k' : Fin 2048 =>
      cmp (x (ix3 b i k), y (ix3 b i k)) (x (ix3 b i k'), y (ix3 b i k')) == 1#1) z)) := by
  refine (sort2_first_along Table 2 (by decide) cmp x y (ix3 b i z)).trans ?_
  show x (Shape.Idx.along (s := Table) (ix3 b i z) 2 (sortedFrom (fun k k' : Fin 2048 =>
    cmp (x (Shape.Idx.along (s := Table) (ix3 b i z) 2 k), y (Shape.Idx.along (s := Table) (ix3 b i z) 2 k))
      (x (Shape.Idx.along (s := Table) (ix3 b i z) 2 k'), y (Shape.Idx.along (s := Table) (ix3 b i z) 2 k')) == 1#1) z)) = _
  simp only [along_eq]
  exact congrArg x (along_eq b i z _)

/-- The second result of a sort of two arrays along the last axis of the distances' shape. -/
theorem sort2_second {α β : Type} (cmp : α × β → α × β → BitVec 1) (x : Table.Idx → α) (y : Table.Idx → β) (b : Fin 4) (i z : Fin 2048) :
    (Host.sort2 Table 2 cmp x y).2 (ix3 b i z) = y (ix3 b i (sortedFrom (fun k k' : Fin 2048 =>
      cmp (x (ix3 b i k), y (ix3 b i k)) (x (ix3 b i k'), y (ix3 b i k')) == 1#1) z)) := by
  refine (sort2_second_along Table 2 (by decide) cmp x y (ix3 b i z)).trans ?_
  show y (Shape.Idx.along (s := Table) (ix3 b i z) 2 (sortedFrom (fun k k' : Fin 2048 =>
    cmp (x (Shape.Idx.along (s := Table) (ix3 b i z) 2 k), y (Shape.Idx.along (s := Table) (ix3 b i z) 2 k))
      (x (Shape.Idx.along (s := Table) (ix3 b i z) 2 k'), y (Shape.Idx.along (s := Table) (ix3 b i z) 2 k')) == 1#1) z)) = _
  simp only [along_eq]
  exact congrArg y (along_eq b i z _)

variable {K : ℕ} (hK : Table.Slices (fun _ => 0) (Front K)) (X : FVec Ideal Table .f32) (b : Fin 4) (i : Fin 2048)
  (d : Fin 2048 → EReal) (hX : ∀ j, X (ix3 b i j) = -d j) (k : Fin K) (hk : k.val < 2048)

include hX

/-- The order in which a row of negated distances is sorted. -/
theorem order_eq : sortedFrom (fun k k' : Fin 2048 =>
    FloatOps.cmpfTotal (F := Ideal) (φ := .f32) .gt (X (ix3 b i k)) (X (ix3 b i k')) == 1#1) = nearest d := by
  refine sortedFrom_congr _ _ fun q q' _ => ?_
  rw [hX, hX]
  exact before_neg _ _

/-- Entry `k` of the sorted values is the negated distance at rank `k`. -/
theorem topK_value : (Host.topK (Front K) 2 (FloatOps.cmpfTotal (F := Ideal) (φ := .f32) .gt) X hK).1 (ix3 b i k)
    = -d (nearest d ⟨k.val, hk⟩) := by
  unfold Host.topK
  dsimp only
  refine (extractStridedSlice_apply (fun _ => 0) _ hK (ix3 b i k) (ix3 b i ⟨k.val, hk⟩ : Table.Idx) ?_).trans ?_
  · intro a
    fin_cases a <;> exact (Nat.zero_add _).symm
  · rw [sort2_first, order_eq X b i d hX, hX]

/-- Entry `k` of the sorted positions is the column at rank `k`. -/
theorem topK_index : (Host.topK (Front K) 2 (FloatOps.cmpfTotal (F := Ideal) (φ := .f32) .gt) X hK).2 (ix3 b i k)
    = BitVec.ofNat 32 (nearest d ⟨k.val, hk⟩).val := by
  unfold Host.topK
  dsimp only
  refine (extractStridedSlice_apply (fun _ => 0) _ hK (ix3 b i k) (ix3 b i ⟨k.val, hk⟩ : Table.Idx) ?_).trans ?_
  · intro a
    fin_cases a <;> exact (Nat.zero_add _).symm
  · rw [sort2_second, order_eq X b i d hX]
    rfl

end Cert.Knn

end
-- ==== Proof.ReferenceResult.lean ====
/-
  WHAT THE REFERENCE'S RESULT HOLDS. The reference takes the thirty-two nearest columns of every row in order, puts the row's
  own index beside each, and keeps every second rank. So entry `(0, b, i, k)` is the column at rank `2 k` of point `i` in batch
  `b` (`reference_picks`), and entry `(1, b, i, k)` is `i` (`reference_rows`).
-/
module

public import proofs.«01_k».proof.Proof.ReferenceDistance
public import proofs.«01_k».proof.Proof.TopK

@[expose] public section

noncomputable section

namespace Cert.Knn

open Idealize.ShloMosaic Cert.ReferenceIdeal Cert.ReferenceIdeal.Gen Cert.ReferenceIdeal.Read

variable (x : FVec Ideal S4x256x2048x1 .f32) (g : FVec Ideal S4x1x2048x1 .f32)

/-- Rank `k` of the reference's thirty-two columns. -/
theorem indices_read (b : Fin 4) (i : Fin 2048) (k : Fin 32) :
    val_main_indices (F := Ideal) x g (ix3 b i k) = BitVec.ofNat 32 (nearest (distRow x g b i) ⟨k.val, by omega⟩).val := by
  unfold val_main_indices
  exact topK_index sliceFits_S4x2048x2048_S4x2048x32 _ b i _ (fun j => val_main_v52_read x g b i j) k (by omega)

/-- The slice keeps every second rank. -/
theorem slice_read (h : Fin 2) (b : Fin 4) (i : Fin 2048) (k : Fin 16) :
    val_main_v59 (F := Ideal) x g (ix4 h b i k) = val_main_v58 (F := Ideal) x g (ix4 h b i ⟨2 * k.val, by omega⟩) := by
  unfold val_main_v59 Host.slice
  refine congrArg (val_main_v58 (F := Ideal) x g) ?_
  funext a
  fin_cases a <;> apply Fin.ext
  · show 0 + 1 * h.val = h.val; omega
  · show 0 + 1 * b.val = b.val; omega
  · show 0 + 1 * i.val = i.val; omega
  · show 0 + 2 * k.val = 2 * k.val; omega

/-- The first half of the reference's result is the column at every second rank. -/
theorem reference_picks (b : Fin 4) (i : Fin 2048) (k : Fin 16) :
    val_main_v59 (F := Ideal) x g (ix4 0 b i k)
      = BitVec.ofNat 32 (nearest (distRow x g b i) ⟨2 * k.val, by omega⟩).val := by
  rw [slice_read]
  refine Eq.trans ?_ (indices_read x g b i ⟨2 * k.val, by omega⟩)
  pointwise [val_main_v58, val_main_v56]
  try rfl

/-- The second half of the reference's result is the row's own index. -/
theorem reference_rows (b : Fin 4) (i : Fin 2048) (k : Fin 16) :
    val_main_v59 (F := Ideal) x g (ix4 1 b i k) = BitVec.ofNat 32 i.val := by
  rw [slice_read]
  pointwise [val_main_v58, val_main_v57, val_main_v55, val_main_v54, val_main_v53]
  try rfl

end Cert.Knn

end
-- ==== Proof.MaskFacts.lean ====
/-
  THE SHAPE CONDITIONS of the mask and of the precondition: each is a fact about literal shapes.
-/
module

public import proofs.«01_k».proof.On_where_untied
public import proofs.«01_k».proof.Pre_no_ties
public import Idealize.ShloMosaic.Lib.Affine
public import Idealize.ShloMosaic.Lib.Decide

@[expose] public section

namespace Cert.Knn

/-- The mask's shape conditions hold. -/
theorem maskFacts : Cert.On_where_untied.Facts := by
  constructor <;> decide

/-- The precondition's shape conditions hold. -/
theorem preFacts : Cert.Pre_no_ties.Facts := by
  constructor <;> decide

end Cert.Knn
-- ==== Proof.Mask.lean ====
/-
  WHAT THE MASK AND THE PRECONDITION COMPUTE. Both start from the negated distances of the reference. `untied` is what the
  two make of them: of a row, whether the thirty-one greatest entries strictly decrease and stay above minus infinity. The
  precondition is `untied` (`pre_eq`); the mask repeats it for the sixteen picks and sets everything in the half that holds the
  row numbers (`mask_eq`).
-/
module

public import proofs.«01_k».proof.Proof.MaskFacts
public import proofs.«01_k».proof.Proof.Gen.ReferenceIdeal.Read

@[expose] public section

noncomputable section

namespace Cert.Knn

open Idealize.ShloMosaic Cert.On_where_untied Cert.On_where_untied.Facts Cert.ReferenceIdeal.Read

attribute [local instance] maskFacts preFacts

/-- The thirty-one greatest entries of every row, in order. -/
def tops (v : FVec Ideal S4x2048x2048 .f32) : FVec Ideal S4x2048x31 .f32 :=
  (Host.topK S4x2048x31 2 (FloatOps.cmpfTotal .gt) v sliceFits_S4x2048x2048_S4x2048x31).1

/-- Whether an entry is at most the next one: a tie, as the entries are in order. -/
def tied (w : FVec Ideal S4x2048x31 .f32) : IVec S4x2048x30 1 :=
  cmpf .ole (extractStridedSlice S4x2048x30 ![0, 0, 0] w slices_S4x2048x31_S4x2048x30_0_0_0)
    (extractStridedSlice S4x2048x30 ![0, 0, 1] w slices_S4x2048x31_S4x2048x30_0_0_1)

/-- The number of ties in every row. -/
def ties (w : FVec Ideal S4x2048x31 .f32) : IVec S4x2048 32 :=
  Host.reduce IntOp.addi (extui 32 (tied w) natLt_1_32) (constantI S_ 32 0#32) reducesTo_S4x2048x30_S4x2048_d2 h_S_

/-- Whether a row has no tie and its last entry is above minus infinity. -/
def untied (w : FVec Ideal S4x2048x31 .f32) : IVec S4x2048x1 1 :=
  andi
    (cmpi .eq (broadcastInDim S4x2048x1 ![0, 1] bcast_S4x2048_S4x2048x1_0_1 (ties w))
      (broadcastInDim S4x2048x1 ![] bcast_S_S4x2048x1 (constantI S_ 32 0#32)))
    (cmpf .ogt (extractStridedSlice S4x2048x1 ![0, 0, 30] w slices_S4x2048x31_S4x2048x1_0_0_30)
      (broadcastInDim S4x2048x1 ![] bcast_S_S4x2048x1 (constant S_ .f32 0xFF800000#32)))

/-- The mask over the two halves of the result, from the untied rows. -/
def halves (u : IVec S4x2048x1 1) : IVec S2x4x2048x16 1 :=
  concatenate S2x4x2048x16 0
    [⟨S1x4x2048x16, broadcastInDim S1x4x2048x16 ![1, 2, 3] bcast_S4x2048x16_S1x4x2048x16_1_2_3
        (broadcastInDim S4x2048x16 ![0, 1, 2] bcast_S4x2048x1_S4x2048x16_0_1_2 u)⟩,
      ⟨S1x4x2048x16, broadcastInDim S1x4x2048x16 ![1, 2, 3] bcast_S4x2048x16_S1x4x2048x16_1_2_3
        (broadcastInDim S4x2048x16 ![] bcast_S_S4x2048x16 (constantI S_ 1 1#1))⟩]
    concatenates_S1x4x2048x16_S1x4x2048x16_S2x4x2048x16_d0

variable (x : FVec Ideal S4x256x2048x1 .f32) (g : FVec Ideal S4x1x2048x1 .f32)

/-- The mask, from the reference's negated distances. -/
theorem mask_eq : Cert.On_where_untied.fn (F := Ideal) x g = halves (untied (tops (val_main_v52 (F := Ideal) x g))) := rfl

/-- The precondition, from the reference's negated distances. -/
theorem pre_eq : Cert.Pre_no_ties.fn (F := Ideal) x g = untied (tops (val_main_v52 (F := Ideal) x g)) := rfl

end Cert.Knn

end
-- ==== Proof.Count.lean ====
/-
  A COUNT OF BITS. Of at most thirty bits, each widened to a 32-bit word, the sum of the words is zero only if every bit is
  zero: the sum cannot wrap around.
-/
module

public import Idealize.ShloMosaic.PureOps
public import Idealize.ShloMosaic.PureOps.Reduce

@[expose] public section

namespace Cert.Knn

open Idealize.ShloMosaic

/-- The number that the sum of the widened bits holds is the number of ones, at most the number of bits. -/
theorem count_toNat (f : Fin 30 → BitVec 1) (s : Finset (Fin 30)) :
    (s.fold IntOp.addi (0#32) fun k => BitVec.setWidth 32 (f k)).toNat = ∑ k ∈ s, (f k).toNat ∧ ∑ k ∈ s, (f k).toNat ≤ s.card := by
  classical
  induction s using Finset.induction_on with
  | empty => exact ⟨by simp, by simp⟩
  | insert a s ha ih =>
    have h1 : (f a).toNat ≤ 1 := by have := (f a).isLt; omega
    have hc : s.card ≤ 30 := (Finset.card_le_univ s).trans (by simp)
    rw [Finset.fold_insert ha, Finset.sum_insert ha, Finset.card_insert_of_notMem ha]
    refine ⟨?_, by omega⟩
    show (BitVec.setWidth 32 (f a) + _).toNat = _
    rw [BitVec.toNat_add, ih.1, BitVec.toNat_setWidth]
    omega

/-- A zero count means that every bit is zero. -/
theorem count_zero (f : Fin 30 → BitVec 1)
    (h : (Finset.univ.fold IntOp.addi (0#32) fun k => BitVec.setWidth 32 (f k)) = 0#32) (k : Fin 30) : f k = 0#1 := by
  have e := (count_toNat f Finset.univ).1
  rw [h] at e
  have := Finset.sum_eq_zero_iff.mp e.symm k (Finset.mem_univ k)
  exact BitVec.eq_of_toNat_eq this

end Cert.Knn
-- ==== Proof.Untied.lean ====
/-
  WHAT AN UNTIED ROW MEANS. Where the mask is set, or the precondition holds, the thirty-one smallest distances of the row
  strictly increase and stay below plus infinity (`strict_of_untied`).
-/
module

public import proofs.«01_k».proof.Proof.Mask
public import proofs.«01_k».proof.Proof.TopK
public import proofs.«01_k».proof.Proof.Count
public import proofs.«01_k».proof.Proof.ReferenceDistance

@[expose] public section

noncomputable section

namespace Cert.Knn

open Idealize.ShloMosaic Cert.On_where_untied Cert.On_where_untied.Facts Cert.ReferenceIdeal.Read

attribute [local instance] maskFacts preFacts

/-- The thirty-one smallest distances of a row strictly increase and stay below plus infinity. -/
structure Strict (d : Fin 2048 → EReal) : Prop where
  step : ∀ r (hr : r < 30), d (nearest d ⟨r, by omega⟩) < d (nearest d ⟨r + 1, by omega⟩)
  finite : d (nearest d ⟨30, by omega⟩) < ⊤

/-- The count of a row's ties is a sum of widened bits. -/
theorem ties_read (w : FVec Ideal S4x2048x31 .f32) (b : Fin 4) (i : Fin 2048) :
    ties w (ix2 b i) = Finset.univ.fold IntOp.addi (0#32) fun k : Fin 30 => BitVec.setWidth 32 (tied w (ix3 b i k)) := by
  unfold ties
  rw [Host.reduce_eq_fold_single IntOp.addi _ _ _ (by decide : S4x2048x30.Reduces [2] S4x2048)]
  refine Finset.fold_congr fun k _ => ?_
  show BitVec.setWidth 32 (tied w _) = _
  refine congrArg (fun y => BitVec.setWidth 32 (tied w y)) ?_
  funext a
  fin_cases a <;> rfl

/-- A bit of `untied` is set only on a row without a tie whose last entry is above minus infinity. -/
theorem untied_read (w : FVec Ideal S4x2048x31 .f32) (b : Fin 4) (i : Fin 2048) (h : untied w (ix3 b i 0) = 1#1) :
    ties w (ix2 b i) = 0#32 ∧ (⊥ : EReal) < w (ix3 b i 30) := by
  have e : untied w (ix3 b i 0) = IntOp.andi (IntOp.cmpi .eq (ties w (ix2 b i)) 0#32)
      (Ideal.cmp .ogt (w (ix3 b i 30)) (Ideal.ofBits .f32 0xFF800000#32)) := by
    pointwise [untied]
  rw [e, ofBits_bot] at h
  have hb : ∀ p q : BitVec 1, IntOp.andi p q = 1#1 → p = 1#1 ∧ q = 1#1 := by decide
  obtain ⟨h1, h2⟩ := hb _ _ h
  refine ⟨?_, ?_⟩
  · by_contra hne
    have hf : IntOp.cmpi .eq (ties w (ix2 b i)) 0#32 = 0#1 := by
      show BitVec.ofBool (ties w (ix2 b i) == 0#32) = 0#1
      rw [beq_eq_false_iff_ne.mpr hne]
      rfl
    rw [hf] at h1
    exact absurd h1 (by decide)
  · by_contra hne
    have hf : Ideal.cmp .ogt (w (ix3 b i 30)) (⊥ : EReal) = BitVec.ofBool (decide ((⊥ : EReal) < w (ix3 b i 30))) := rfl
    rw [hf, decide_eq_false hne] at h2
    exact absurd h2 (by decide)

/-- On a row whose bit is set the distances are strict. -/
theorem strict_of_untied (x : FVec Ideal S4x256x2048x1 .f32) (g : FVec Ideal S4x1x2048x1 .f32) (b : Fin 4) (i : Fin 2048)
    (h : untied (tops (val_main_v52 (F := Ideal) x g)) (ix3 b i 0) = 1#1) : Strict (distRow x g b i) := by
  obtain ⟨hc, ht⟩ := untied_read _ b i h
  have hw : ∀ k : Fin 31, tops (val_main_v52 (F := Ideal) x g) (ix3 b i k)
      = -distRow x g b i (nearest (distRow x g b i) ⟨k.val, by omega⟩) := fun k =>
    topK_value sliceFits_S4x2048x2048_S4x2048x31 _ b i _ (fun j => val_main_v52_read x g b i j) k (by omega)
  rw [ties_read] at hc
  refine ⟨fun r hr => ?_, ?_⟩
  · have hk := count_zero _ hc ⟨r, hr⟩
    have e : tied (tops (val_main_v52 (F := Ideal) x g)) (ix3 b i ⟨r, hr⟩)
        = Ideal.cmp .ole (tops (val_main_v52 (F := Ideal) x g) (ix3 b i ⟨r, by omega⟩))
          (tops (val_main_v52 (F := Ideal) x g) (ix3 b i ⟨r + 1, by omega⟩)) := by
      pointwise [tied]
      simp only [Nat.add_comm]
    rw [e, hw, hw] at hk
    have hf : Ideal.cmp .ole (-distRow x g b i (nearest (distRow x g b i) ⟨r, by omega⟩))
        (-distRow x g b i (nearest (distRow x g b i) ⟨r + 1, by omega⟩))
        = BitVec.ofBool (decide (-distRow x g b i (nearest (distRow x g b i) ⟨r, by omega⟩)
          ≤ -distRow x g b i (nearest (distRow x g b i) ⟨r + 1, by omega⟩))) := rfl
    by_contra hne
    rw [hf, decide_eq_true (EReal.neg_le_neg_iff.mpr (not_lt.mp hne))] at hk
    exact absurd hk (by decide)
  · rw [hw] at ht
    rw [← EReal.neg_lt_neg_iff, EReal.neg_top]
    exact ht

end Cert.Knn

end
-- ==== Proof.Equation.lean ====
/-
  THE EQUATION. On a row whose thirty-one smallest distances strictly increase and stay below plus infinity, round `2 k` of the
  kernel finds the column at rank `2 k`: there the kernel's result is the reference's. The halves that hold the row numbers
  agree without a condition. So the results agree wherever the mask is set (`equal_on_mask`), and everywhere under the
  precondition (`equal_of_pre`).
-/
module

public import proofs.«01_k».proof.Proof.KernelResult
public import proofs.«01_k».proof.Proof.ReferenceResult
public import proofs.«01_k».proof.Proof.Untied

@[expose] public section

noncomputable section

namespace Cert.Knn

open Idealize.ShloMosaic Cert.KernelIdeal Cert.ReferenceIdeal.Read

attribute [local instance] maskFacts preFacts

variable (x : FVec Ideal S4x256x2048x1 .f32) (g : FVec Ideal S4x1x2048x1 .f32)

/-- On a strict row the kernel picks the reference's column. -/
theorem pick_eq (b : Fin 4) (i : Fin 2048) (k : Fin 16) (h : Strict (distRow x g b i)) :
    kernelResult x g (ix4 0 b i k) = val_main_v59 (F := Ideal) x g (ix4 0 b i k) := by
  rw [result_picks, reference_picks]
  exact (ranked_sortedFrom (distRow x g b i)).first_left (by norm_num) 30 (by norm_num) h.step h.finite (2 * k.val) (by omega)

/-- The halves that hold the row numbers agree. -/
theorem row_eq (b : Fin 4) (i : Fin 2048) (k : Fin 16) :
    kernelResult x g (ix4 1 b i k) = val_main_v59 (F := Ideal) x g (ix4 1 b i k) := by
  rw [result_rows, reference_rows]

/-- The results agree at an entry, if the row's bit is set when the entry is a pick. -/
theorem equal_of_rows (s : Fin 2) (b : Fin 4) (i : Fin 2048) (k : Fin 16)
    (h : s = 0 → untied (tops (val_main_v52 (F := Ideal) x g)) (ix3 b i 0) = 1#1) :
    kernelResult x g (ix4 s b i k) = val_main_v59 (F := Ideal) x g (ix4 s b i k) := by
  match s with
  | 0 => exact pick_eq x g b i k (strict_of_untied x g b i (h rfl))
  | 1 => exact row_eq x g b i k

/-- An entry by its four coordinates. -/
theorem entry (y : S2x4x2048x16.Idx) : ∃ (s : Fin 2) (b : Fin 4) (i : Fin 2048) (k : Fin 16), y = ix4 s b i k :=
  ⟨y 0, y 1, y 2, y 3, eq_ix4 y⟩

/-- The mask's first half repeats the bit of the row. -/
theorem mask_read (u : IVec Cert.On_where_untied.S4x2048x1 1) (b : Fin 4) (i : Fin 2048) (k : Fin 16) :
    halves u (ix4 0 b i k) = u (ix3 b i 0) := by
  pointwise [halves]

/-- The results agree wherever the mask is set. -/
theorem equal_on_mask (y : S2x4x2048x16.Idx) (h : Cert.On_where_untied.fn (F := Ideal) x g y = 1#1) :
    kernelResult x g y = val_main_v59 (F := Ideal) x g y := by
  obtain ⟨s, b, i, k, rfl⟩ := entry y
  refine equal_of_rows x g s b i k fun h0 => ?_
  subst h0
  rw [mask_eq] at h
  exact (mask_read _ b i k).symm.trans h

/-- Under the precondition the results agree everywhere. -/
theorem equal_of_pre (h : Cert.Pre_no_ties.fn (F := Ideal) x g = fun _ => 1#1) :
    kernelResult x g = val_main_v59 (F := Ideal) x g := by
  funext y
  obtain ⟨s, b, i, k, rfl⟩ := entry y
  refine equal_of_rows x g s b i k fun _ => ?_
  rw [← pre_eq, h]

end Cert.Knn

end
-- ==== Proof.lean ====
/-
  THE CERTIFICATE. The kernel and its ideal reading run, leave their arguments and end with every semaphore at zero; so does
  the reference. Over the extended reals the kernel's result is the reference's wherever the mask of untied rows is set, and
  everywhere when no row has a tie. The runs are `Cert.Knn.kernel_run` and the reference's generated run; the equation is
  `Cert.Knn.equal_on_mask` and `Cert.Knn.equal_of_pre`.
-/
module

public import proofs.«01_k».proof.Defs
public import proofs.«01_k».proof.Proof.Equation
public import proofs.«01_k».proof.Proof.Gen.Kernel.Frame
public import proofs.«01_k».proof.Proof.Gen.ReferenceIdeal.Run
public import Idealize.ShloMosaic.Lib.Quiescent

@[expose] public section

noncomputable section

namespace Cert.Proof

open Idealize.ShloMosaic Idealize.SL.Sem Cert.Knn

attribute [local instance] maskFacts preFacts

/-- The reference's run ends with the arguments as launched and every semaphore at zero: it has no semaphore. -/
theorem reference_frame : Cert.quiescent_ReferenceIdeal := fun m ρ _ =>
  θ_run_mono (Cert.ReferenceIdeal.Value.run m ρ) fun r h => ⟨fun c => (h c).2, sem_eq_zero_of_no_sems (by decide) _⟩

/-- Wherever the mask is set both programs end with the kernel's value. -/
theorem equal_on : Cert.algebraic_KernelIdeal_ReferenceIdeal_on_where_untied := by
  intro m ρ m' ρ' _ hagree
  refine ⟨fun c => kernelResult (argX m c) (argG m c), ?_, ?_⟩
  · refine θ_run_mono (kernel_run m ρ) fun r h c => ⟨fun i _ => ?_, (h c).2⟩
    rw [(h c).1]
  · refine θ_run_mono (Cert.ReferenceIdeal.Value.run m' ρ') fun r h c => ⟨fun i hi => ?_, (h c).2⟩
    rw [(h c).1, Cert.ReferenceIdeal.Read.val_main_v59_eq, (hagree c).1, (hagree c).2]
    exact (equal_on_mask _ _ i hi).symm

/-- Without a tie both programs end with the kernel's value. -/
theorem equal_pre : Cert.algebraic_KernelIdeal_ReferenceIdeal_pre_no_ties := by
  intro m ρ m' ρ' hpre hagree
  refine ⟨fun c => kernelResult (argX m c) (argG m c), kernel_run m ρ, ?_⟩
  refine θ_run_mono (Cert.ReferenceIdeal.Value.run m' ρ') fun r h c => ⟨?_, (h c).2⟩
  rw [(h c).1, Cert.ReferenceIdeal.Read.val_main_v59_eq, (hagree c).1, (hagree c).2]
  exact (equal_of_pre _ _ (hpre c)).symm

/-- All the claims. -/
theorem claim : Cert.Claim :=
  ⟨Cert.Kernel.Gen.facts, Cert.KernelIdeal.Gen.facts, Cert.ReferenceIdeal.Gen.facts, preFacts, maskFacts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, equal_on, equal_pre⟩

end Cert.Proof

end
